-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "angle_step" .f32 0x3ACDDDE9#32 ((2635359 / 1677889400 : ℝ) : EReal)
  ∧ IdealRules.named_const.Statement Cert.KernelIdeal.κ "angle_start" .f32 0x3924B187#32 ((16463680628775 / 104821528717164544 : ℝ) : EReal)
  ∧ IdealRules.named_const.Statement Cert.KernelIdeal.κ "lowest_less_two" .f32 0xC0400000#32 ((-50331647 / 16777216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v286) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S16384 : Shape := ⟨1, ![16384]⟩
abbrev S1001 : Shape := ⟨1, ![1001]⟩
abbrev S4x32x128 : Shape := ⟨3, ![4, 32, 128]⟩
abbrev S_ : Shape := ⟨0, ![]⟩
abbrev S1x1 : Shape := ⟨2, ![1, 1]⟩
abbrev S1x32x128 : Shape := ⟨3, ![1, 32, 128]⟩
abbrev S4096x128 : Shape := ⟨2, ![4096, 128]⟩
abbrev S64x128 : Shape := ⟨2, ![64, 128]⟩
abbrev S32x128 : Shape := ⟨2, ![32, 128]⟩
abbrev S128x32 : Shape := ⟨2, ![128, 32]⟩
abbrev S64x1 : Shape := ⟨2, ![64, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1001, .f32⟩
  | .hbm, ⟨3, _⟩ => ⟨S4x32x128, .i32⟩
  | .hbm, ⟨4, _⟩ => ⟨S_, .i32⟩
  | .hbm, ⟨5, _⟩ => ⟨S1x1, .i32⟩
  | .hbm, ⟨6, _⟩ => ⟨S16384x128, .f32⟩
  | .hbm, ⟨7, _⟩ => ⟨S16384x128, .f32⟩
  | .local _ .vmem, ⟨0, _⟩ => ⟨S1x1, .i32⟩
  | .local _ .vmem, ⟨1, _⟩ => ⟨S1x32x128, .i32⟩
  | .local _ .vmem, ⟨2, _⟩ => ⟨S1x32x128, .i32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "angle_start" => some ((16463680628775 / 104821528717164544 : ℝ) : EReal)
  | "angle_step" => some ((2635359 / 1677889400 : ℝ) : EReal)
  | "lowest_less_two" => some ((-50331647 / 16777216 : ℝ) : EReal)
  | _ => none
-- ==== ReferenceIdeal.lean ====
abbrev S16384x128 : Shape := ⟨2, ![16384, 128]⟩
abbrev S16384 : Shape := ⟨1, ![16384]⟩
abbrev S1001 : Shape := ⟨1, ![1001]⟩
abbrev S_ : Shape := ⟨0, ![]⟩
abbrev S16384x1 : Shape := ⟨2, ![16384, 1]⟩

abbrev nBuf : Space → Nat
  | .hbm => 385
  | .vmem => 0
  | .smem => 0
  | _ => 0

abbrev hbmTy0_0 (i : Nat) : BufTy := match i % 128 with
  | 0 => ⟨S16384x128, .f32⟩
  | 1 => ⟨S16384, .i32⟩
  | 2 => ⟨S1001, .f32⟩
  | 3 => ⟨S16384, .f32⟩
  | 4 => ⟨S_, .f32⟩
  | 5 => ⟨S16384, .f32⟩
  | 6 => ⟨S16384, .f32⟩
  | 7 => ⟨S_, .f32⟩
  | 8 => ⟨S16384, .f32⟩
  | 9 => ⟨S16384, .f32⟩
  | 10 => ⟨S_, .f32⟩
  | 11 => ⟨S16384, .f32⟩
  | 12 => ⟨S16384, .f32⟩
  | 13 => ⟨S_, .f32⟩
  | 14 => ⟨S16384, .f32⟩
  | 15 => ⟨S16384, .f32⟩
  | 16 => ⟨S16384, .f32⟩
  | 17 => ⟨S_, .f32⟩
  | 18 => ⟨S16384, .f32⟩
  | 19 => ⟨S16384, .f32⟩
  | 20 => ⟨S_, .f32⟩
  | 21 => ⟨S16384, .f32⟩
  | 22 => ⟨S16384, .f32⟩
  | 23 => ⟨S16384, .f32⟩
  | 24 => ⟨S_, .f32⟩
  | 25 => ⟨S16384, .f32⟩
  | 26 => ⟨S16384, .f32⟩
  | 27 => ⟨S16384, .f32⟩
  | 28 => ⟨S16384, .f32⟩
  | 29 => ⟨S16384, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .f32⟩
  | 37 => ⟨S16384, .f32⟩
  | 38 => ⟨S16384, .f32⟩
  | 39 => ⟨S16384, .f32⟩
  | 40 => ⟨S16384, .f32⟩
  | 41 => ⟨S16384, .f32⟩
  | 42 => ⟨S_, .f32⟩
  | 43 => ⟨S16384, .f32⟩
  | 44 => ⟨S16384, .f32⟩
  | 45 => ⟨S_, .f32⟩
  | 46 => ⟨S16384, .f32⟩
  | 47 => ⟨S16384, .f32⟩
  | 48 => ⟨S16384, .f32⟩
  | 49 => ⟨S_, .f32⟩
  | 50 => ⟨S16384, .f32⟩
  | 51 => ⟨S16384, .f32⟩
  | 52 => ⟨S16384, .f32⟩
  | 53 => ⟨S16384, .f32⟩
  | 54 => ⟨S16384, .f32⟩
  | 55 => ⟨S_, .f32⟩
  | 56 => ⟨S16384, .f32⟩
  | 57 => ⟨S16384, .f32⟩
  | 58 => ⟨S16384, .f32⟩
  | 59 => ⟨S16384, .f32⟩
  | 60 => ⟨S16384, .f32⟩
  | 61 => ⟨S_, .f32⟩
  | 62 => ⟨S16384, .f32⟩
  | 63 => ⟨S16384, .f32⟩
  | 64 => ⟨S16384, .f32⟩
  | 65 => ⟨S16384, .f32⟩
  | 66 => ⟨S16384x128, .i32⟩
  | 67 => ⟨S_, .i32⟩
  | 68 => ⟨S16384x128, .i32⟩
  | 69 => ⟨S16384x128, .i32⟩
  | 70 => ⟨S16384x128, .i32⟩
  | 71 => ⟨S16384x128, .i32⟩
  | 72 => ⟨S_, .i32⟩
  | 73 => ⟨S16384x128, .i32⟩
  | 74 => ⟨S_, .i32⟩
  | 75 => ⟨S16384x128, .i32⟩
  | 76 => ⟨S16384x128, .i32⟩
  | 77 => ⟨S_, .i32⟩
  | 78 => ⟨S16384x128, .i32⟩
  | 79 => ⟨S16384x128, .i32⟩
  | 80 => ⟨S16384x128, .i32⟩
  | 81 => ⟨S_, .i32⟩
  | 82 => ⟨S16384x128, .i32⟩
  | 83 => ⟨S16384x128, .i32⟩
  | 84 => ⟨S_, .i32⟩
  | 85 => ⟨S16384x128, .i32⟩
  | 86 => ⟨S16384x128, .i32⟩
  | 87 => ⟨S16384x128, .i32⟩
  | 88 => ⟨S16384x128, .i32⟩
  | 89 => ⟨S16384x128, .i32⟩
  | 90 => ⟨S_, .i32⟩
  | 91 => ⟨S16384x128, .i32⟩
  | 92 => ⟨S16384x128, .i32⟩
  | 93 => ⟨S_, .i32⟩
  | 94 => ⟨S16384x128, .i32⟩
  | 95 => ⟨S16384x128, .i32⟩
  | 96 => ⟨S16384x128, .i32⟩
  | 97 => ⟨S16384x128, .i32⟩
  | 98 => ⟨S16384x128, .i32⟩
  | 99 => ⟨S_, .i32⟩
  | 100 => ⟨S16384x128, .i32⟩
  | 101 => ⟨S16384x128, .i32⟩
  | 102 => ⟨S_, .i32⟩
  | 103 => ⟨S16384x128, .i32⟩
  | 104 => ⟨S16384x128, .i32⟩
  | 105 => ⟨S16384x128, .i32⟩
  | 106 => ⟨S16384x128, .i32⟩
  | 107 => ⟨S16384x128, .i32⟩
  | 108 => ⟨S_, .i32⟩
  | 109 => ⟨S16384x128, .i32⟩
  | 110 => ⟨S16384x128, .i32⟩
  | 111 => ⟨S_, .i32⟩
  | 112 => ⟨S16384x128, .i32⟩
  | 113 => ⟨S16384x128, .i32⟩
  | 114 => ⟨S16384x128, .i32⟩
  | 115 => ⟨S16384x128, .i32⟩
  | 116 => ⟨S_, .i32⟩
  | 117 => ⟨S16384x128, .i32⟩
  | 118 => ⟨S16384x128, .i32⟩
  | 119 => ⟨S_, .i32⟩
  | 120 => ⟨S16384x128, .i32⟩
  | 121 => ⟨S16384x128, .i32⟩
  | 122 => ⟨S_, .i32⟩
  | 123 => ⟨S16384x128, .i32⟩
  | 124 => ⟨S16384x128, .i32⟩
  | 125 => ⟨S16384x128, .i32⟩
  | 126 => ⟨S_, .i32⟩
  | 127 => ⟨S16384x128, .i32⟩
  | _ => ⟨S16384x128, .f32⟩

abbrev hbmTy0_1 (i : Nat) : BufTy := match i % 128 with
  | 0 => ⟨S16384x128, .i32⟩
  | 1 => ⟨S_, .i32⟩
  | 2 => ⟨S16384x128, .i32⟩
  | 3 => ⟨S16384x128, .i32⟩
  | 4 => ⟨S16384x128, .i32⟩
  | 5 => ⟨S16384x128, .i32⟩
  | 6 => ⟨S16384x128, .i32⟩
  | 7 => ⟨S_, .i32⟩
  | 8 => ⟨S16384x128, .i32⟩
  | 9 => ⟨S16384x128, .i32⟩
  | 10 => ⟨S_, .i32⟩
  | 11 => ⟨S16384x128, .i32⟩
  | 12 => ⟨S16384x128, .i32⟩
  | 13 => ⟨S16384x128, .i32⟩
  | 14 => ⟨S16384x128, .i32⟩
  | 15 => ⟨S16384x128, .i32⟩
  | 16 => ⟨S_, .i32⟩
  | 17 => ⟨S16384x128, .i32⟩
  | 18 => ⟨S16384x128, .i32⟩
  | 19 => ⟨S_, .i32⟩
  | 20 => ⟨S16384x128, .i32⟩
  | 21 => ⟨S16384x128, .i32⟩
  | 22 => ⟨S16384x128, .i32⟩
  | 23 => ⟨S16384x128, .i32⟩
  | 24 => ⟨S16384x128, .i32⟩
  | 25 => ⟨S_, .i32⟩
  | 26 => ⟨S16384x128, .i32⟩
  | 27 => ⟨S16384x128, .i32⟩
  | 28 => ⟨S_, .i32⟩
  | 29 => ⟨S16384x128, .i32⟩
  | 30 => ⟨S16384x128, .i32⟩
  | 31 => ⟨S16384x128, .i32⟩
  | 32 => ⟨S16384x128, .i32⟩
  | 33 => ⟨S_, .i32⟩
  | 34 => ⟨S16384x128, .i32⟩
  | 35 => ⟨S16384x128, .i32⟩
  | 36 => ⟨S_, .i32⟩
  | 37 => ⟨S16384x128, .i32⟩
  | 38 => ⟨S16384x128, .i32⟩
  | 39 => ⟨S_, .i32⟩
  | 40 => ⟨S16384x128, .i32⟩
  | 41 => ⟨S16384x128, .i32⟩
  | 42 => ⟨S16384x128, .i32⟩
  | 43 => ⟨S_, .i32⟩
  | 44 => ⟨S16384x128, .i32⟩
  | 45 => ⟨S16384x128, .i32⟩
  | 46 => ⟨S_, .i32⟩
  | 47 => ⟨S16384x128, .i32⟩
  | 48 => ⟨S16384x128, .i32⟩
  | 49 => ⟨S16384x128, .i32⟩
  | 50 => ⟨S16384x128, .i32⟩
  | 51 => ⟨S16384x128, .i32⟩
  | 52 => ⟨S_, .i32⟩
  | 53 => ⟨S16384x128, .i32⟩
  | 54 => ⟨S16384x128, .i32⟩
  | 55 => ⟨S_, .i32⟩
  | 56 => ⟨S16384x128, .i32⟩
  | 57 => ⟨S16384x128, .i32⟩
  | 58 => ⟨S16384x128, .i32⟩
  | 59 => ⟨S16384x128, .i32⟩
  | 60 => ⟨S16384x128, .i32⟩
  | 61 => ⟨S_, .i32⟩
  | 62 => ⟨S16384x128, .i32⟩
  | 63 => ⟨S16384x128, .i32⟩
  | 64 => ⟨S_, .i32⟩
  | 65 => ⟨S16384x128, .i32⟩
  | 66 => ⟨S16384x128, .i32⟩
  | 67 => ⟨S16384x128, .i32⟩
  | 68 => ⟨S16384x128, .i32⟩
  | 69 => ⟨S16384x128, .i32⟩
  | 70 => ⟨S_, .i32⟩
  | 71 => ⟨S16384x128, .i32⟩
  | 72 => ⟨S16384x128, .i32⟩
  | 73 => ⟨S_, .i32⟩
  | 74 => ⟨S16384x128, .i32⟩
  | 75 => ⟨S16384x128, .i32⟩
  | 76 => ⟨S16384x128, .i32⟩
  | 77 => ⟨S16384x128, .i32⟩
  | 78 => ⟨S_, .i32⟩
  | 79 => ⟨S16384x128, .i32⟩
  | 80 => ⟨S16384x128, .i32⟩
  | 81 => ⟨S_, .i32⟩
  | 82 => ⟨S16384x128, .i32⟩
  | 83 => ⟨S16384x128, .i32⟩
  | 84 => ⟨S_, .i32⟩
  | 85 => ⟨S16384x128, .i32⟩
  | 86 => ⟨S16384x128, .i32⟩
  | 87 => ⟨S16384x128, .i32⟩
  | 88 => ⟨S_, .i32⟩
  | 89 => ⟨S16384x128, .i32⟩
  | 90 => ⟨S16384x128, .i32⟩
  | 91 => ⟨S_, .i32⟩
  | 92 => ⟨S16384x128, .i32⟩
  | 93 => ⟨S16384x128, .i32⟩
  | 94 => ⟨S16384x128, .i32⟩
  | 95 => ⟨S16384x128, .i32⟩
  | 96 => ⟨S16384x128, .i32⟩
  | 97 => ⟨S_, .i32⟩
  | 98 => ⟨S16384x128, .i32⟩
  | 99 => ⟨S16384x128, .i32⟩
  | 100 => ⟨S_, .i32⟩
  | 101 => ⟨S16384x128, .i32⟩
  | 102 => ⟨S16384x128, .i32⟩
  | 103 => ⟨S16384x128, .i32⟩
  | 104 => ⟨S16384x128, .i32⟩
  | 105 => ⟨S16384x128, .i32⟩
  | 106 => ⟨S_, .i32⟩
  | 107 => ⟨S16384x128, .i32⟩
  | 108 => ⟨S16384x128, .i32⟩
  | 109 => ⟨S_, .i32⟩
  | 110 => ⟨S16384x128, .i32⟩
  | 111 => ⟨S16384x128, .i32⟩
  | 112 => ⟨S16384x128, .i32⟩
  | 113 => ⟨S16384x128, .i32⟩
  | 114 => ⟨S16384x128, .i32⟩
  | 115 => ⟨S_, .i32⟩
  | 116 => ⟨S16384x128, .i32⟩
  | 117 => ⟨S16384x128, .i32⟩
  | 118 => ⟨S_, .i32⟩
  | 119 => ⟨S16384x128, .i32⟩
  | 120 => ⟨S16384x128, .i32⟩
  | 121 => ⟨S16384x128, .i32⟩
  | 122 => ⟨S16384x128, .i32⟩
  | 123 => ⟨S_, .i32⟩
  | 124 => ⟨S16384x128, .i32⟩
  | 125 => ⟨S16384x128, .i32⟩
  | 126 => ⟨S_, .i32⟩
  | 127 => ⟨S16384x128, .i32⟩
  | _ => ⟨S16384x128, .f32⟩

abbrev hbmTy0_2 (i : Nat) : BufTy := match i % 128 with
  | 0 => ⟨S16384x128, .i32⟩
  | 1 => ⟨S_, .i32⟩
  | 2 => ⟨S16384x128, .i32⟩
  | 3 => ⟨S16384x128, .i32⟩
  | 4 => ⟨S16384x128, .i32⟩
  | 5 => ⟨S_, .i32⟩
  | 6 => ⟨S16384x128, .i32⟩
  | 7 => ⟨S16384x128, .i32⟩
  | 8 => ⟨S_, .i32⟩
  | 9 => ⟨S16384x128, .i32⟩
  | 10 => ⟨S16384x128, .i32⟩
  | 11 => ⟨S16384x128, .i32⟩
  | 12 => ⟨S16384x128, .i32⟩
  | 13 => ⟨S16384x128, .i32⟩
  | 14 => ⟨S_, .i32⟩
  | 15 => ⟨S16384x128, .i32⟩
  | 16 => ⟨S16384x128, .i32⟩
  | 17 => ⟨S_, .i32⟩
  | 18 => ⟨S16384x128, .i32⟩
  | 19 => ⟨S16384x128, .i32⟩
  | 20 => ⟨S16384x128, .i32⟩
  | 21 => ⟨S16384x128, .i32⟩
  | 22 => ⟨S16384x128, .i32⟩
  | 23 => ⟨S_, .i32⟩
  | 24 => ⟨S16384x128, .i32⟩
  | 25 => ⟨S16384x128, .i32⟩
  | 26 => ⟨S_, .i32⟩
  | 27 => ⟨S16384x128, .i32⟩
  | 28 => ⟨S16384x128, .i32⟩
  | 29 => ⟨S16384x128, .i32⟩
  | 30 => ⟨S16384x128, .i32⟩
  | 31 => ⟨S16384x128, .i32⟩
  | 32 => ⟨S_, .i32⟩
  | 33 => ⟨S16384x128, .i32⟩
  | 34 => ⟨S16384x128, .i32⟩
  | 35 => ⟨S_, .i32⟩
  | 36 => ⟨S16384x128, .i32⟩
  | 37 => ⟨S16384x128, .i32⟩
  | 38 => ⟨S16384x128, .i32⟩
  | 39 => ⟨S16384x128, .i32⟩
  | 40 => ⟨S_, .i32⟩
  | 41 => ⟨S16384x128, .i32⟩
  | 42 => ⟨S16384x128, .i32⟩
  | 43 => ⟨S_, .i32⟩
  | 44 => ⟨S16384x128, .i32⟩
  | 45 => ⟨S16384x128, .i32⟩
  | 46 => ⟨S_, .i32⟩
  | 47 => ⟨S16384x128, .i32⟩
  | 48 => ⟨S16384x128, .i32⟩
  | 49 => ⟨S16384x128, .i32⟩
  | 50 => ⟨S_, .i32⟩
  | 51 => ⟨S16384x128, .i32⟩
  | 52 => ⟨S16384x128, .i32⟩
  | 53 => ⟨S_, .i32⟩
  | 54 => ⟨S16384x128, .i32⟩
  | 55 => ⟨S16384x128, .i32⟩
  | 56 => ⟨S16384x128, .f32⟩
  | 57 => ⟨S_, .f32⟩
  | 58 => ⟨S16384x128, .f32⟩
  | 59 => ⟨S16384x128, .f32⟩
  | 60 => ⟨S_, .f32⟩
  | 61 => ⟨S16384x128, .f32⟩
  | 62 => ⟨S16384x128, .f32⟩
  | 63 => ⟨S_, .f32⟩
  | 64 => ⟨S16384x128, .f32⟩
  | 65 => ⟨S16384x128, .f32⟩
  | 66 => ⟨S_, .f32⟩
  | 67 => ⟨S16384x128, .f32⟩
  | 68 => ⟨S16384x128, .f32⟩
  | 69 => ⟨S16384x128, .f32⟩
  | 70 => ⟨S_, .f32⟩
  | 71 => ⟨S16384x128, .f32⟩
  | 72 => ⟨S16384x128, .f32⟩
  | 73 => ⟨S16384x128, .f32⟩
  | 74 => ⟨S16384x128, .f32⟩
  | 75 => ⟨S16384x128, .f32⟩
  | 76 => ⟨S_, .f32⟩
  | 77 => ⟨S16384x128, .f32⟩
  | 78 => ⟨S16384x128, .f32⟩
  | 79 => ⟨S_, .f32⟩
  | 80 => ⟨S16384x128, .f32⟩
  | 81 => ⟨S16384x128, .f32⟩
  | 82 => ⟨S16384x128, .f32⟩
  | 83 => ⟨S_, .f32⟩
  | 84 => ⟨S16384x128, .f32⟩
  | 85 => ⟨S16384x128, .f32⟩
  | 86 => ⟨S16384x128, .f32⟩
  | 87 => ⟨S16384x128, .f32⟩
  | 88 => ⟨S16384x128, .f32⟩
  | 89 => ⟨S_, .f32⟩
  | 90 => ⟨S16384x128, .f32⟩
  | 91 => ⟨S16384x128, .f32⟩
  | 92 => ⟨S16384x128, .f32⟩
  | 93 => ⟨S16384x128, .f32⟩
  | 94 => ⟨S16384x128, .f32⟩
  | 95 => ⟨S_, .f32⟩
  | 96 => ⟨S16384x128, .f32⟩
  | 97 => ⟨S16384x128, .f32⟩
  | 98 => ⟨S16384x128, .f32⟩
  | 99 => ⟨S16384x128, .f32⟩
  | 100 => ⟨S16384x128, .f32⟩
  | 101 => ⟨S16384x128, .f32⟩
  | 102 => ⟨S_, .f32⟩
  | 103 => ⟨S16384x128, .f32⟩
  | 104 => ⟨S16384x128, .f32⟩
  | 105 => ⟨S16384x128, .f32⟩
  | 106 => ⟨S16384x128, .f32⟩
  | 107 => ⟨S16384x128, .f32⟩
  | 108 => ⟨S16384x128, .f32⟩
  | 109 => ⟨S_, .f32⟩
  | 110 => ⟨S16384x128, .f32⟩
  | 111 => ⟨S16384x128, .f32⟩
  | 112 => ⟨S16384x128, .f32⟩
  | 113 => ⟨S16384x128, .f32⟩
  | 114 => ⟨S16384x128, .f32⟩
  | 115 => ⟨S16384x128, .f32⟩
  | 116 => ⟨S16384x128, .f32⟩
  | 117 => ⟨S_, .f32⟩
  | 118 => ⟨S16384x128, .f32⟩
  | 119 => ⟨S16384x128, .f32⟩
  | 120 => ⟨S16384x128, .f32⟩
  | 121 => ⟨S16384x128, .f32⟩
  | 122 => ⟨S16384x1, .f32⟩
  | 123 => ⟨S16384x128, .f32⟩
  | 124 => ⟨S16384x128, .f32⟩
  | 125 => ⟨S16384x1, .f32⟩
  | 126 => ⟨S16384x128, .f32⟩
  | 127 => ⟨S16384x128, .f32⟩
  | _ => ⟨S16384x128, .f32⟩

abbrev hbmTy0_3 (i : Nat) : BufTy := match i % 128 with
  | 0 => ⟨S16384x128, .f32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_13 : Ref sig .tc := ⟨.hbm, 72, rfl⟩
abbrev main_v54 : Ref sig .tc := ⟨.hbm, 73, rfl⟩
abbrev main_c_14 : Ref sig .tc := ⟨.hbm, 74, rfl⟩
abbrev main_v55 : Ref sig .tc := ⟨.hbm, 75, rfl⟩
abbrev main_v56 : Ref sig .tc := ⟨.hbm, 76, rfl⟩
abbrev main_c_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_16 : Ref sig .tc := ⟨.hbm, 81, rfl⟩
abbrev main_v60 : Ref sig .tc := ⟨.hbm, 82, rfl⟩
abbrev main_v61 : Ref sig .tc := ⟨.hbm, 83, rfl⟩
abbrev main_c_17 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_18 : Ref sig .tc := ⟨.hbm, 90, rfl⟩
abbrev main_v67 : Ref sig .tc := ⟨.hbm, 91, rfl⟩
abbrev main_v68 : Ref sig .tc := ⟨.hbm, 92, rfl⟩
abbrev main_c_19 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_20 : Ref sig .tc := ⟨.hbm, 99, rfl⟩
abbrev main_v74 : Ref sig .tc := ⟨.hbm, 100, rfl⟩
abbrev main_v75 : Ref sig .tc := ⟨.hbm, 101, rfl⟩
abbrev main_c_21 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_22 : Ref sig .tc := ⟨.hbm, 108, rfl⟩
abbrev main_v81 : Ref sig .tc := ⟨.hbm, 109, rfl⟩
abbrev main_v82 : Ref sig .tc := ⟨.hbm, 110, rfl⟩
abbrev main_c_23 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_24 : Ref sig .tc := ⟨.hbm, 116, rfl⟩
abbrev main_v87 : Ref sig .tc := ⟨.hbm, 117, rfl⟩
abbrev main_v88 : Ref sig .tc := ⟨.hbm, 118, rfl⟩
abbrev main_c_25 : Ref sig .tc := ⟨.hbm, 119, rfl⟩
abbrev main_v89 : Ref sig .tc := ⟨.hbm, 120, rfl⟩
abbrev main_v90 : Ref sig .tc := ⟨.hbm, 121, rfl⟩
abbrev main_c_26 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_27 : Ref sig .tc := ⟨.hbm, 126, rfl⟩
abbrev main_v94 : Ref sig .tc := ⟨.hbm, 127, rfl⟩
abbrev main_v95 : Ref sig .tc := ⟨.hbm, 128, rfl⟩
abbrev main_c_28 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_29 : Ref sig .tc := ⟨.hbm, 135, rfl⟩
abbrev main_v101 : Ref sig .tc := ⟨.hbm, 136, rfl⟩
abbrev main_v102 : Ref sig .tc := ⟨.hbm, 137, rfl⟩
abbrev main_c_30 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_31 : Ref sig .tc := ⟨.hbm, 144, rfl⟩
abbrev main_v108 : Ref sig .tc := ⟨.hbm, 145, rfl⟩
abbrev main_v109 : Ref sig .tc := ⟨.hbm, 146, rfl⟩
abbrev main_c_32 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_33 : Ref sig .tc := ⟨.hbm, 153, rfl⟩
abbrev main_v115 : Ref sig .tc := ⟨.hbm, 154, rfl⟩
abbrev main_v116 : Ref sig .tc := ⟨.hbm, 155, rfl⟩
abbrev main_c_34 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_35 : Ref sig .tc := ⟨.hbm, 161, rfl⟩
abbrev main_v121 : Ref sig .tc := ⟨.hbm, 162, rfl⟩
abbrev main_v122 : Ref sig .tc := ⟨.hbm, 163, rfl⟩
abbrev main_c_36 : Ref sig .tc := ⟨.hbm, 164, rfl⟩
abbrev main_v123 : Ref sig .tc := ⟨.hbm, 165, rfl⟩
abbrev main_v124 : Ref sig .tc := ⟨.hbm, 166, rfl⟩
abbrev main_c_37 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_38 : Ref sig .tc := ⟨.hbm, 171, rfl⟩
abbrev main_v128 : Ref sig .tc := ⟨.hbm, 172, rfl⟩
abbrev main_v129 : Ref sig .tc := ⟨.hbm, 173, rfl⟩
abbrev main_c_39 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_40 : Ref sig .tc := ⟨.hbm, 180, rfl⟩
abbrev main_v135 : Ref sig .tc := ⟨.hbm, 181, rfl⟩
abbrev main_v136 : Ref sig .tc := ⟨.hbm, 182, rfl⟩
abbrev main_c_41 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_42 : Ref sig .tc := ⟨.hbm, 189, rfl⟩
abbrev main_v142 : Ref sig .tc := ⟨.hbm, 190, rfl⟩
abbrev main_v143 : Ref sig .tc := ⟨.hbm, 191, rfl⟩
abbrev main_c_43 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_c_44 : Ref sig .tc := ⟨.hbm, 198, rfl⟩
abbrev main_v149 : Ref sig .tc := ⟨.hbm, 199, rfl⟩
abbrev main_v150 : Ref sig .tc := ⟨.hbm, 200, rfl⟩
abbrev main_c_45 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_46 : Ref sig .tc := ⟨.hbm, 206, rfl⟩
abbrev main_v155 : Ref sig .tc := ⟨.hbm, 207, rfl⟩
abbrev main_v156 : Ref sig .tc := ⟨.hbm, 208, rfl⟩
abbrev main_c_47 : Ref sig .tc := ⟨.hbm, 209, rfl⟩
abbrev main_v157 : Ref sig .tc := ⟨.hbm, 210, rfl⟩
abbrev main_v158 : Ref sig .tc := ⟨.hbm, 211, rfl⟩
abbrev main_c_48 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_c_49 : Ref sig .tc := ⟨.hbm, 216, rfl⟩
abbrev main_v162 : Ref sig .tc := ⟨.hbm, 217, rfl⟩
abbrev main_v163 : Ref sig .tc := ⟨.hbm, 218, rfl⟩
abbrev main_c_50 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_c_51 : Ref sig .tc := ⟨.hbm, 225, rfl⟩
abbrev main_v169 : Ref sig .tc := ⟨.hbm, 226, rfl⟩
abbrev main_v170 : Ref sig .tc := ⟨.hbm, 227, rfl⟩
abbrev main_c_52 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_c_53 : Ref sig .tc := ⟨.hbm, 234, rfl⟩
abbrev main_v176 : Ref sig .tc := ⟨.hbm, 235, rfl⟩
abbrev main_v177 : Ref sig .tc := ⟨.hbm, 236, rfl⟩
abbrev main_c_54 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_c_55 : Ref sig .tc := ⟨.hbm, 243, rfl⟩
abbrev main_v183 : Ref sig .tc := ⟨.hbm, 244, rfl⟩
abbrev main_v184 : Ref sig .tc := ⟨.hbm, 245, rfl⟩
abbrev main_c_56 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_c_57 : Ref sig .tc := ⟨.hbm, 251, rfl⟩
abbrev main_v189 : Ref sig .tc := ⟨.hbm, 252, rfl⟩
abbrev main_v190 : Ref sig .tc := ⟨.hbm, 253, rfl⟩
abbrev main_c_58 : Ref sig .tc := ⟨.hbm, 254, rfl⟩
abbrev main_v191 : Ref sig .tc := ⟨.hbm, 255, rfl⟩
abbrev main_v192 : Ref sig .tc := ⟨.hbm, 256, rfl⟩
abbrev main_c_59 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_c_60 : Ref sig .tc := ⟨.hbm, 261, rfl⟩
abbrev main_v196 : Ref sig .tc := ⟨.hbm, 262, rfl⟩
abbrev main_v197 : Ref sig .tc := ⟨.hbm, 263, rfl⟩
abbrev main_c_61 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_c_62 : Ref sig .tc := ⟨.hbm, 270, rfl⟩
abbrev main_v203 : Ref sig .tc := ⟨.hbm, 271, rfl⟩
abbrev main_v204 : Ref sig .tc := ⟨.hbm, 272, rfl⟩
abbrev main_c_63 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_c_64 : Ref sig .tc := ⟨.hbm, 279, rfl⟩
abbrev main_v210 : Ref sig .tc := ⟨.hbm, 280, rfl⟩
abbrev main_v211 : Ref sig .tc := ⟨.hbm, 281, rfl⟩
abbrev main_c_65 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_c_66 : Ref sig .tc := ⟨.hbm, 288, rfl⟩
abbrev main_v217 : Ref sig .tc := ⟨.hbm, 289, rfl⟩
abbrev main_v218 : Ref sig .tc := ⟨.hbm, 290, rfl⟩
abbrev main_c_67 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_c_68 : Ref sig .tc := ⟨.hbm, 296, rfl⟩
abbrev main_v223 : Ref sig .tc := ⟨.hbm, 297, rfl⟩
abbrev main_v224 : Ref sig .tc := ⟨.hbm, 298, rfl⟩
abbrev main_c_69 : Ref sig .tc := ⟨.hbm, 299, rfl⟩
abbrev main_v225 : Ref sig .tc := ⟨.hbm, 300, rfl⟩
abbrev main_v226 : Ref sig .tc := ⟨.hbm, 301, rfl⟩
abbrev main_c_70 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_c_71 : Ref sig .tc := ⟨.hbm, 306, rfl⟩
abbrev main_v230 : Ref sig .tc := ⟨.hbm, 307, rfl⟩
abbrev main_v231 : Ref sig .tc := ⟨.hbm, 308, rfl⟩
abbrev main_c_72 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_cst_73 : Ref sig .tc := ⟨.hbm, 313, rfl⟩
abbrev main_v235 : Ref sig .tc := ⟨.hbm, 314, rfl⟩
abbrev main_v236 : Ref sig .tc := ⟨.hbm, 315, rfl⟩
abbrev main_cst_74 : Ref sig .tc := ⟨.hbm, 316, rfl⟩
abbrev main_v237 : Ref sig .tc := ⟨.hbm, 317, rfl⟩
abbrev main_v238 : Ref sig .tc := ⟨.hbm, 318, rfl⟩
abbrev main_cst_75 : Ref sig .tc := ⟨.hbm, 319, rfl⟩
abbrev main_v239 : Ref sig .tc := ⟨.hbm, 320, rfl⟩
abbrev main_v240 : Ref sig .tc := ⟨.hbm, 321, rfl⟩
abbrev main_cst_76 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_cst_77 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_cst_78 : Ref sig .tc := ⟨.hbm, 332, rfl⟩
abbrev main_v249 : Ref sig .tc := ⟨.hbm, 333, rfl⟩
abbrev main_v250 : Ref sig .tc := ⟨.hbm, 334, rfl⟩
abbrev main_cst_79 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_cst_80 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_cst_81 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_cst_82 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_cst_83 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_cst_84 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_cst_85 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_v289 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_v293 : Ref sig .tc := ⟨.hbm, 384, rfl⟩

abbrev nD : Nat := 1
abbrev τ : Topo := Topo.v7x

variable {F : FTy → Type} [FloatOps F]
-- ==== Proof.Cipher.lean ====
/- THE WORDS. Both programs draw their random words with the Threefry-2x32 cipher under the key (0, 1) on the counter
   (0, n). The reference runs it as it is defined; the kernel leaves out the additions of the zero key word, starts the
   first round from the known zero half, and adds each key word and group number as one constant. Here both are stated
   on one 32-bit word, the kernel's also on a whole array of words, and shown to be the same function. -/
module

public import Idealize.ShloMosaic.Lib.ValueIdx

@[expose] public section

namespace Cert.Noise

open Idealize.ShloMosaic

/-! ## On one word -/

section Scalar

variable (u : ArithUnit)

/-- Rotation to the left by `l` places: `r` is `32 - l`. -/
def rot (l r x : BitVec 32) : BitVec 32 := IntOp.ori (IntOp.shli u x l) (IntOp.shrui u x r)

/-- One round of the cipher on its two halves. -/
def round (l r : BitVec 32) (p : BitVec 32 × BitVec 32) : BitVec 32 × BitVec 32 :=
  (IntOp.addi p.1 p.2, IntOp.xori (rot u l r p.2) (IntOp.addi p.1 p.2))

/-- The four rounds of an even group after its first, -/
def tail (p : BitVec 32 × BitVec 32) : BitVec 32 × BitVec 32 :=
  round u 6 26 (round u 26 6 (round u 15 17 p))

/-- an even group, -/
def even (p : BitVec 32 × BitVec 32) : BitVec 32 × BitVec 32 := tail u (round u 13 19 p)

/-- an odd group. -/
def odd (p : BitVec 32 × BitVec 32) : BitVec 32 × BitVec 32 :=
  round u 24 8 (round u 16 16 (round u 29 3 (round u 17 15 p)))

/-- The key words added between two groups, as the cipher is defined: `a` to one half, `b` and the group's number `c`
    to the other. -/
def key (a b c : BitVec 32) (p : BitVec 32 × BitVec 32) : BitVec 32 × BitVec 32 :=
  (IntOp.addi p.1 a, IntOp.addi (IntOp.addi p.2 b) c)

/-- The same with the second half's two words added up, -/
def merged (a b : BitVec 32) (p : BitVec 32 × BitVec 32) : BitVec 32 × BitVec 32 :=
  (IntOp.addi p.1 a, IntOp.addi p.2 b)

/-- and with nothing for the first half. -/
def second (b : BitVec 32) (p : BitVec 32 × BitVec 32) : BitVec 32 × BitVec 32 :=
  (p.1, IntOp.addi p.2 b)

/-- The first round when the first half is zero. -/
def first (n : BitVec 32) : BitVec 32 × BitVec 32 :=
  (IntOp.addi n 1, IntOp.xori (rot u 13 19 (IntOp.addi n 1)) (IntOp.addi n 1))

/-- The word the kernel draws at counter `n`: the exclusive or of the cipher's two halves. -/
def kernelWord (n : BitVec 32) : BitVec 32 :=
  let p := merged 466688987 5 (even u (merged 1 466688991 (odd u (second 4 (even u (merged 466688987 2
    (odd u (merged 1 466688988 (tail u (first u n))))))))))
  IntOp.xori p.1 p.2

/-- The word the reference draws at counter `n`. -/
def cipherWord (n : BitVec 32) : BitVec 32 :=
  let p := key 466688987 0 5 (even u (key 1 466688987 4 (odd u (key 0 1 3 (even u (key 466688987 0 2
    (odd u (key 1 466688987 1 (even u (IntOp.addi 0 0, IntOp.addi n 1))))))))))
  IntOp.xori p.1 p.2

end Scalar

theorem rot_host (l r x : BitVec 32) : rot .host l r x = rot .vector l r x := by
  unfold rot; rw [ValueIdx.shli_host, ValueIdx.shrui_host]

theorem round_host (l r : BitVec 32) (p : BitVec 32 × BitVec 32) : round .host l r p = round .vector l r p := by
  unfold round; rw [rot_host]

theorem even_host (p : BitVec 32 × BitVec 32) : even .host p = even .vector p := by
  simp only [even, tail, round_host]

theorem odd_host (p : BitVec 32 × BitVec 32) : odd .host p = odd .vector p := by
  simp only [odd, round_host]

theorem key_eq_merged (a b c : BitVec 32) (p : BitVec 32 × BitVec 32) : key a b c p = merged a (b + c) p := by
  simp only [key, merged, IntOp.addi, BitVec.add_assoc]

theorem merged_zero (b : BitVec 32) (p : BitVec 32 × BitVec 32) : merged 0 b p = second b p := by
  simp [merged, second, IntOp.addi]

theorem even_first (n : BitVec 32) : even .vector (IntOp.addi 0 0, IntOp.addi n 1) = tail .vector (first .vector n) := by
  simp [even, round, first, IntOp.addi]

/-- The two programs draw the same word at every counter. -/
theorem cipherWord_eq (n : BitVec 32) : cipherWord .host n = kernelWord .vector n := by
  unfold cipherWord kernelWord
  simp only [even_host, odd_host, key_eq_merged]
  rw [even_first, show (0 : BitVec 32) + 5 = 5 from rfl, show (466688987 : BitVec 32) + 4 = 466688991 from rfl,
    show (1 : BitVec 32) + 3 = 4 from rfl, show (0 : BitVec 32) + 2 = 2 from rfl,
    show (466688987 : BitVec 32) + 1 = 466688988 from rfl, merged_zero]

/-! ## On an array of words, as the kernel computes it -/

section Vector

variable {s : Shape}

def vRot (l r : BitVec 32) (x : IVec s 32) : IVec s 32 := ori (shli x (broadcast s l)) (shrui x (broadcast s r))

def vRound (l r : BitVec 32) (p : IVec s 32 × IVec s 32) : IVec s 32 × IVec s 32 :=
  (addi p.1 p.2, xori (vRot l r p.2) (addi p.1 p.2))

def vTail (p : IVec s 32 × IVec s 32) : IVec s 32 × IVec s 32 := vRound 6 26 (vRound 26 6 (vRound 15 17 p))

def vEven (p : IVec s 32 × IVec s 32) : IVec s 32 × IVec s 32 := vTail (vRound 13 19 p)

def vOdd (p : IVec s 32 × IVec s 32) : IVec s 32 × IVec s 32 :=
  vRound 24 8 (vRound 16 16 (vRound 29 3 (vRound 17 15 p)))

def vMerged (a b : BitVec 32) (p : IVec s 32 × IVec s 32) : IVec s 32 × IVec s 32 :=
  (addi p.1 (broadcast s a), addi p.2 (broadcast s b))

def vSecond (b : BitVec 32) (p : IVec s 32 × IVec s 32) : IVec s 32 × IVec s 32 :=
  (p.1, addi p.2 (broadcast s b))

def vFirst (n : IVec s 32) : IVec s 32 × IVec s 32 :=
  (addi n (broadcast s 1), xori (vRot 13 19 (addi n (broadcast s 1))) (addi n (broadcast s 1)))

/-- The kernel's words at an array of counters. -/
def kernelWords (n : IVec s 32) : IVec s 32 :=
  let p := vMerged 466688987 5 (vEven (vMerged 1 466688991 (vOdd (vSecond 4 (vEven (vMerged 466688987 2
    (vOdd (vMerged 1 466688988 (vTail (vFirst n))))))))))
  xori p.1 p.2

/-- Two arrays of halves read at an index. -/
def at2 (p : IVec s 32 × IVec s 32) (j : s.Idx) : BitVec 32 × BitVec 32 := (p.1 j, p.2 j)

theorem at2_round (l r : BitVec 32) (p : IVec s 32 × IVec s 32) (j : s.Idx) :
    at2 (vRound l r p) j = round .vector l r (at2 p j) := rfl

theorem at2_tail (p : IVec s 32 × IVec s 32) (j : s.Idx) : at2 (vTail p) j = tail .vector (at2 p j) := by
  simp only [vTail, tail, at2_round]

theorem at2_even (p : IVec s 32 × IVec s 32) (j : s.Idx) : at2 (vEven p) j = even .vector (at2 p j) := by
  simp only [vEven, even, at2_round, at2_tail]

theorem at2_odd (p : IVec s 32 × IVec s 32) (j : s.Idx) : at2 (vOdd p) j = odd .vector (at2 p j) := by
  simp only [vOdd, odd, at2_round]

theorem at2_merged (a b : BitVec 32) (p : IVec s 32 × IVec s 32) (j : s.Idx) :
    at2 (vMerged a b p) j = merged a b (at2 p j) := rfl

theorem at2_second (b : BitVec 32) (p : IVec s 32 × IVec s 32) (j : s.Idx) :
    at2 (vSecond b p) j = second b (at2 p j) := rfl

theorem at2_first (n : IVec s 32) (j : s.Idx) : at2 (vFirst n) j = first .vector (n j) := rfl

/-- The word at an index is the word of the counter there. -/
theorem kernelWords_apply (n : IVec s 32) (j : s.Idx) : kernelWords n j = kernelWord .vector (n j) := by
  have h (p : IVec s 32 × IVec s 32) : (xori p.1 p.2) j = IntOp.xori (at2 p j).1 (at2 p j).2 := rfl
  unfold kernelWords kernelWord
  simp only [h, at2_merged, at2_even, at2_odd, at2_second, at2_tail, at2_first]

end Vector

end Cert.Noise
-- ==== Proof.Chunk.lean ====
/- ONE CHUNK OF THE KERNEL'S BODY. The body treats the 4096 rows of its block in 64 chunks of 64 rows, all alike. Here
   one chunk is written once, over its number `c`: the noise it draws, the rates it cuts out of the block's table, and
   the mixture it stores. -/
module

public import proofs.«01_k».proof.Proof.Gen.KernelIdeal
public import proofs.«01_k».proof.Proof.Cipher
public import Idealize.ShloMosaic.Lib.Pipeline.Value

@[expose] public section

noncomputable section

namespace Cert.KernelIdeal.Hand

open Cert.KernelIdeal Cert.KernelIdeal.Gen Idealize.ShloMosaic

variable {F : FTy → Type} [FloatOps F] [Named F]

/-! ## The noise -/

/-- The number in (-1, 1) that a word gives: its upper bits as a number of [1, 2), doubled and moved. -/
def vUniform (b : IVec S64x128 32) : FVec F S64x128 .f32 :=
  addf (mulf (bitcastToFloat .f32 (ori (shrui b (broadcast S64x128 9#32)) (broadcast S64x128 1065353216#32)))
    (broadcast S64x128 (Scalar.ofBits .f32 0x40000000#32)))
    (broadcast S64x128 (Named.named κ "lowest_less_two" 0xC0400000#32))

/-- The square root of `-log (1 - u²)`. -/
def vRoot (u : FVec F S64x128 .f32) : FVec F S64x128 .f32 :=
  sqrt (subf (broadcast S64x128 (Scalar.ofBits .f32 0x00000000#32))
    (log (subf (broadcast S64x128 (Scalar.ofBits .f32 0x3F800000#32)) (mulf u u))))

/-- One step of a Horner evaluation at `x`: the coefficient is the number of the pattern `b`. -/
def vStep {s : Shape} (x : FVec F s .f32) (b : BitVec 32) (acc : FVec F s .f32) : FVec F s .f32 :=
  addf (broadcast s (Scalar.ofBits .f32 b)) (mulf acc x)

/-- A Horner evaluation's start: the leading coefficient times `x`, the next one added. -/
def vStart {s : Shape} (x : FVec F s .f32) (a b : BitVec 32) : FVec F s .f32 :=
  addf (broadcast s (Scalar.ofBits .f32 b)) (mulf (broadcast s (Scalar.ofBits .f32 a)) x)

/-- The normal quantile's polynomial. -/
def vQuantile (x : FVec F S64x128 .f32) : FVec F S64x128 .f32 :=
  vStep x 0x3FA0AF3B#32 (vStep x 0xBCC8A584#32 (vStep x 0x3EDBC0D1#32 (vStep x 0xBE48EF50#32
    (vStep x 0x3E5C319A#32 (vStep x 0xBDD6D461#32 (vStart x 0xBADEE84B#32 0x3CB45D79#32))))))

/-- The normal number of a word. -/
def vNormal (b : IVec S64x128 32) : FVec F S64x128 .f32 :=
  mulf (vUniform b) (vQuantile (vRoot (vUniform b)))

/-- The place of each element in a chunk, row by row. -/
def vPlace : IVec S64x128 32 :=
  addi (muli (iota .tc S64x128 32 [0] Facts₀.iota_S64x128_d0_w32) (broadcast S64x128 128#32))
    (iota .tc S64x128 32 [1] Facts₀.iota_S64x128_d1_w32)

/-- The counter at which point `i`'s block starts, given the launch's own offset. -/
def start (i : grid0.Coords) (x0 : Vec F S1x1 .i32) : BitVec 32 :=
  Scalar.addi (extractAt ![0, 0] (View.ld x0 (Rect.unit (s := S1x1) ![0, 0] S1x1.size Facts₀.inb_S1x1_S1x1_0_0)) Facts₀.inpos_S1x1_p0_0)
    (Scalar.muli (Scalar.muli (BitVec.ofNat 32 (i 0).val) 4096#32) 128#32)

/-- The noise of chunk `c`. -/
def epsChunk (i : grid0.Coords) (x0 : Vec F S1x1 .i32) (c : ℕ) : FVec F S64x128 .f32 :=
  vNormal (Noise.kernelWords (addi (broadcast S64x128 (Scalar.addi (start i x0) (BitVec.ofNat 32 (8192 * c)))) vPlace))

/-! ## The rates -/

/-- The angles of the block's steps, -/
def vAngle (x1 : Vec F S1x32x128 .i32) : FVec F S32x128 .f32 :=
  addf (mulf (sitofp .f32 (shapeCast S32x128 (View.ld x1 (Rect.unit (s := S1x32x128) ![0, 0, 0] S1x32x128.size Facts₀.inb_S1x32x128_S1x32x128_0_0_0))
      Facts₀.shapeCasts_S1x32x128_S32x128)) (broadcast S32x128 (Named.named κ "angle_step" 0x3ACDDDE9#32)))
    (broadcast S32x128 (Named.named κ "angle_start" 0x3924B187#32))

/-- their squares, -/
def vSquare (x1 : Vec F S1x32x128 .i32) : FVec F S32x128 .f32 := mulf (vAngle x1) (vAngle x1)

/-- the signal rates, transposed, -/
def signalTable (x1 : Vec F S1x32x128 .i32) : FVec F S128x32 .f32 :=
  transpose S128x32 [1, 0] (absf (vStep (vSquare x1) 0x3F7FFFFF#32 (vStep (vSquare x1) 0xBEFFFFE7#32
    (vStep (vSquare x1) 0x3D2AA7F7#32 (vStart (vSquare x1) 0x37C2EE65#32 0xBAB5A1CA#32))))) Facts₀.transposes_S32x128_p1_0_S128x32

/-- and the noise rates, transposed. -/
def noiseTable (x1 : Vec F S1x32x128 .i32) : FVec F S128x32 .f32 :=
  transpose S128x32 [1, 0] (mulf (vAngle x1) (vStep (vSquare x1) 0x3F800000#32 (vStep (vSquare x1) 0xBE2AAAA6#32
    (vStep (vSquare x1) 0x3C08878B#32 (vStart (vSquare x1) 0x362F5978#32 0xB94FBFBF#32))))) Facts₀.transposes_S32x128_p1_0_S128x32

/-- Chunk `c`'s column of a table: half of the column `c / 2`. -/
theorem column_slices {c : ℕ} (h : c < 64) : S128x32.Slices ![64 * (c % 2), c / 2] S64x1 :=
  (by decide +kernel : ∀ c : Fin 64, S128x32.Slices ![64 * (c.val % 2), c.val / 2] S64x1) ⟨c, h⟩

def column (T : FVec F S128x32 .f32) {c : ℕ} (h : c < 64) : FVec F S64x1 .f32 :=
  extractStridedSlice S64x1 ![64 * (c % 2), c / 2] T (column_slices h)

/-! ## The stores -/

/-- Chunk `c`'s rows of the block. -/
theorem rows_inb {c : ℕ} (h : c < 64) : ∀ a, (![64 * c, 0] : Fin 2 → ℕ) a + S64x128.size a ≤ S4096x128.size a :=
  (by decide +kernel : ∀ c : Fin 64, ∀ a, (![64 * c.val, 0] : Fin 2 → ℕ) a + S64x128.size a ≤ S4096x128.size a) ⟨c, h⟩

abbrev rows {c : ℕ} (h : c < 64) : Rect S4096x128 := Rect.unit (s := S4096x128) ![64 * c, 0] S64x128.size (rows_inb h)

/-- What chunk `c` stores for the noised array. -/
def mixChunk (i : grid0.Coords) (x0 : Vec F S1x1 .i32) (x1 : Vec F S1x32x128 .i32) (x2 : Vec F S4096x128 .f32) {c : ℕ} (h : c < 64) :
    FVec F S64x128 .f32 :=
  addf (mulf (broadcastTo S64x128 (column (signalTable x1) h) Facts₀.broadcasts_S64x1_S64x128) (View.ld x2 (rows h)))
    (mulf (broadcastTo S64x128 (column (noiseTable x1) h) Facts₀.broadcasts_S64x1_S64x128) (epsChunk i x0 c))

/-- The stores of the first `n` chunks, the last first, where chunk `c` stores `P c`. -/
def pieces (P : (c : ℕ) → c < 64 → FVec F S64x128 .f32) : (n : ℕ) → n ≤ 64 → List (View.Piece (Elt F) S4096x128 .f32)
  | 0, _ => []
  | n + 1, h => ⟨rows h, P n h⟩ :: pieces P n (Nat.le_of_succ_le h)

end Cert.KernelIdeal.Hand
-- ==== Proof.Block.lean ====
/- THE BLOCK AS 64 CHUNKS. What the body leaves in its two output buffers is the list of its stores; each store is the
   chunk of Chunk.lean at its number. Both statements unfold two spellings of the same expressions. -/
module

public import proofs.«01_k».proof.Proof.Gen.KernelIdeal.Frame
public import proofs.«01_k».proof.Proof.Chunk
public import Idealize.ShloMosaic.Lib.Pointwise.TacticCore

@[expose] public section

set_option maxRecDepth 16384

noncomputable section

namespace Cert.KernelIdeal.Hand

open Cert.KernelIdeal Cert.KernelIdeal.Gen Idealize.ShloMosaic

variable {F : FTy → Type} [FloatOps F] [Named F]

set_option maxHeartbeats 8000000 in
/-- The noise buffer's stores. -/
theorem out_eps (i : grid0.Coords) (x0 : Vec F S1x1 .i32) (x1 : Vec F S1x32x128 .i32) (x2 : Vec F S4096x128 .f32) :
    out0_4 i x0 x1 x2 = View.canon (pieces (fun c _ => epsChunk i x0 c) 64 le_rfl) := by
  unfold out0_4
  unfold_payloads
  dsimp only [pieces, epsChunk, vNormal, vUniform, vRoot, vQuantile, vStep, vStart, vPlace, start,
    Noise.kernelWords, Noise.vMerged, Noise.vEven, Noise.vOdd, Noise.vSecond, Noise.vTail, Noise.vFirst, Noise.vRound,
    Noise.vRot]
  rfl

set_option maxHeartbeats 8000000 in
/-- The noised buffer's stores. -/
theorem out_mix (i : grid0.Coords) (x0 : Vec F S1x1 .i32) (x1 : Vec F S1x32x128 .i32) (x2 : Vec F S4096x128 .f32) :
    out0_3 i x0 x1 x2 = View.canon (pieces (fun _ h => mixChunk i x0 x1 x2 h) 64 le_rfl) := by
  unfold out0_3
  unfold_payloads
  dsimp only [pieces, mixChunk, column, signalTable, noiseTable, vAngle, vSquare, epsChunk, vNormal, vUniform, vRoot,
    vQuantile, vStep, vStart, vPlace, start, Noise.kernelWords, Noise.vMerged, Noise.vEven, Noise.vOdd, Noise.vSecond,
    Noise.vTail, Noise.vFirst, Noise.vRound, Noise.vRot]
  rfl

end Cert.KernelIdeal.Hand
-- ==== Proof.Numbers.lean ====
/- THE NUMBERS. What the two programs compute from one word and from one step, over the extended reals: the uniform
   number, the normal number, the signal rate and the noise rate, each as the kernel writes it and as the reference
   writes it, and their equality. All of them turn out to be real numbers, so the equality of a Horner evaluation and a
   sum of powers is the ring's. -/
module

public import Idealize.ShloMosaic.Lib.ValueIdx
public import Idealize.ShloMosaic.PureOps.Ideal
public import Idealize.ShloMosaic.PureOps.Ideal.Laws
public import Mathlib.Tactic.Ring
public import Mathlib.Tactic.NormNum
public import Mathlib.Tactic.Linarith

@[expose] public section

noncomputable section

namespace Cert.Noise

open Idealize.ShloMosaic

/-! ## Patterns -/

/-- The number of a pattern. -/
abbrev num (b : BitVec 32) : EReal := Ideal.ofBits .f32 b

/-- A pattern whose exponent is not all ones is a real number. -/
theorem num_real (b : BitVec 32) (h : (b.extractLsb' 23 8).toNat ≠ 255) : ∃ r : ℝ, num b = (r : EReal) := by
  show ∃ r : ℝ, Ideal.ieee 8 23 b = (r : EReal)
  unfold Ideal.ieee
  simp only [show (2 : ℕ) ^ 8 - 1 = 255 from rfl, if_neg h]
  split
  · exact ⟨_, rfl⟩
  · exact ⟨_, rfl⟩

/-- The real number of a normal pattern. -/
def normal (b : BitVec 32) : ℝ :=
  (if (b.extractLsb' 31 1 == 1#1) = true then -1 else 1) * ((2 ^ 23 + (b.extractLsb' 0 23).toNat : ℕ) : ℝ)
    * (2 : ℝ) ^ (((b.extractLsb' 23 8).toNat : ℤ) - 127 - 23)

theorem num_normal (b : BitVec 32) (h : (b.extractLsb' 23 8).toNat ≠ 255) (h' : (b.extractLsb' 23 8).toNat ≠ 0) :
    num b = (normal b : EReal) := by
  show Ideal.ieee 8 23 b = (normal b : EReal)
  unfold Ideal.ieee normal
  simp only [show (2 : ℕ) ^ 8 - 1 = 255 from rfl, if_neg h, if_neg h']
  norm_num

theorem num_zero : num 0x00000000#32 = ((0 : ℝ) : EReal) := by
  simp [num, Ideal.ofBits, Ideal.ieee]

theorem num_one : num 0x3F800000#32 = ((1 : ℝ) : EReal) := by
  rw [num_normal _ (by decide) (by decide)]; congr 1; simp [normal]; norm_num

theorem num_two : num 0x40000000#32 = ((2 : ℝ) : EReal) := by
  rw [num_normal _ (by decide) (by decide)]; congr 1; simp [normal]; norm_num

/-- The least number drawn, `-(1 - 2⁻²⁴)`. -/
theorem num_lowest : num 0xBF7FFFFF#32 = ((-16777215 / 16777216 : ℝ) : EReal) := by
  rw [num_normal _ (by decide) (by decide)]; congr 1; simp [normal]; norm_num

theorem num_half_pi : num 0x3FC90FDB#32 = ((13176795 / 8388608 : ℝ) : EReal) := by
  rw [num_normal _ (by decide) (by decide)]; congr 1; simp [normal]; norm_num

theorem num_thousand : num 0x447A0000#32 = ((1000 : ℝ) : EReal) := by
  rw [num_normal _ (by decide) (by decide)]; congr 1; simp [normal]; norm_num

theorem num_start : num 0x38D1B717#32 = ((13743895 / 137438953472 : ℝ) : EReal) := by
  rw [num_normal _ (by decide) (by decide)]; congr 1; simp [normal]; norm_num

theorem num_stretch : num 0x3F800347#32 = ((8389447 / 8388608 : ℝ) : EReal) := by
  rw [num_normal _ (by decide) (by decide)]; congr 1; simp [normal]; norm_num

/-! ## The uniform number of a word -/

/-- The pattern with a word's upper 23 bits for fraction and the exponent of one. -/
def pattern (u : ArithUnit) (w : BitVec 32) : BitVec 32 :=
  IntOp.ori (IntOp.shrui u w 9#32) 1065353216#32

theorem pattern_host (w : BitVec 32) : pattern .host w = pattern .vector w := by
  unfold pattern; rw [ValueIdx.shrui_host]

theorem pattern_eq (w : BitVec 32) : pattern .vector w = (w >>> 9) ||| 1065353216#32 := by
  unfold pattern IntOp.ori IntOp.shrui
  simp

/-- It is a number of [1, 2), on a grid of step 2⁻²³. -/
theorem num_pattern (w : BitVec 32) :
    ∃ k : ℕ, k < 2 ^ 23 ∧ num (pattern .vector w) = ((1 + k / 8388608 : ℝ) : EReal) := by
  have e : (pattern .vector w).extractLsb' 23 8 = 127#8 := by
    rw [pattern_eq]; ext i hi; interval_cases i <;> simp
  have g : (pattern .vector w).extractLsb' 31 1 = 0#1 := by
    rw [pattern_eq]; ext i hi; interval_cases i; simp
  refine ⟨((pattern .vector w).extractLsb' 0 23).toNat, BitVec.isLt _, ?_⟩
  rw [num_normal _ (by rw [e]; decide) (by rw [e]; decide)]
  congr 1
  unfold normal
  rw [e, g]
  norm_num
  ring

/-- The uniform number as the kernel writes it: the numbers of [1, 2) doubled, and moved by the named constant, -/
def uniformK (w : BitVec 32) : EReal :=
  num (pattern .vector w) * num 0x40000000#32 + ((-50331647 / 16777216 : ℝ) : EReal)

/-- and as the reference writes it. -/
def uniformR (w : BitVec 32) : EReal :=
  max (num 0xBF7FFFFF#32)
    ((num (pattern .host w) - num 0x3F800000#32) * num 0x40000000#32 + num 0xBF7FFFFF#32)

/-- They are one real number, strictly between -1 and 1. -/
theorem uniform_real (w : BitVec 32) :
    ∃ u : ℝ, -1 < u ∧ u < 1 ∧ uniformK w = (u : EReal) ∧ uniformR w = (u : EReal) := by
  obtain ⟨k, hk, e⟩ := num_pattern w
  have hk' : (k : ℝ) ≤ 8388607 := by exact_mod_cast (by omega : k ≤ 8388607)
  have hk0 : (0 : ℝ) ≤ k := Nat.cast_nonneg k
  refine ⟨(1 + k / 8388608) * 2 + -50331647 / 16777216, by linarith, by linarith, ?_, ?_⟩
  · unfold uniformK; rw [e, num_two]; norm_cast
  · unfold uniformR; rw [pattern_host, e, num_two, num_one, num_lowest]
    rw [← EReal.coe_sub, ← EReal.coe_mul, ← EReal.coe_add, max_eq_right (EReal.coe_le_coe_iff.2 (by linarith))]
    congr 1; ring

/-! ## The normal number -/

/-- The square root of `-log (1 - u²)` as the kernel writes it, -/
def rootK (u : EReal) : EReal := Ideal.sqrt (num 0x00000000#32 - Ideal.log (num 0x3F800000#32 - u * u))

/-- and as the reference writes it. -/
def rootR (u : EReal) : EReal := Ideal.sqrt (-(Ideal.log (num 0x3F800000#32 - u * u)))

/-- They are one real number for a real `u` strictly between -1 and 1. -/
theorem root_real (u : ℝ) (h : -1 < u) (h' : u < 1) :
    ∃ s : ℝ, rootK (u : EReal) = (s : EReal) ∧ rootR (u : EReal) = (s : EReal) := by
  have hp : 0 < 1 - u * u := by nlinarith
  have hl : Real.log (1 - u * u) ≤ 0 := Real.log_nonpos hp.le (by nlinarith [mul_self_nonneg u])
  have e : Ideal.log (num 0x3F800000#32 - (u : EReal) * u) = ((Real.log (1 - u * u) : ℝ) : EReal) := by
    rw [num_one, ← EReal.coe_mul, ← EReal.coe_sub, Ideal.log_coe, if_neg (not_le.2 hp)]
  refine ⟨Real.sqrt (-Real.log (1 - u * u)), ?_, ?_⟩
  · unfold rootK; rw [e, num_zero, ← EReal.coe_sub, zero_sub, Ideal.sqrt_coe, if_neg (not_lt.2 (neg_nonneg.2 hl))]
  · unfold rootR; rw [e, ← EReal.coe_neg, Ideal.sqrt_coe, if_neg (not_lt.2 (neg_nonneg.2 hl))]

/-- One step of a Horner evaluation at `x`. -/
abbrev step (x : EReal) (b : BitVec 32) (acc : EReal) : EReal := num b + acc * x

/-- The quantile's polynomial as the kernel evaluates it, -/
def quantileK (x : EReal) : EReal :=
  step x 0x3FA0AF3B#32 (step x 0xBCC8A584#32 (step x 0x3EDBC0D1#32 (step x 0xBE48EF50#32
    (step x 0x3E5C319A#32 (step x 0xBDD6D461#32 (num 0x3CB45D79#32 + num 0xBADEE84B#32 * x))))))

/-- and as the reference sums it. -/
def quantileR (x : EReal) : EReal :=
  num 0x3FA0AF3B#32 + num 0xBCC8A584#32 * x + num 0x3EDBC0D1#32 * (x * x) + num 0xBE48EF50#32 * (x * x * x)
    + num 0x3E5C319A#32 * (x * x * (x * x)) + num 0xBDD6D461#32 * (x * (x * x * (x * x)))
    + num 0x3CB45D79#32 * (x * x * (x * x * (x * x))) + num 0xBADEE84B#32 * (x * (x * x) * (x * x * (x * x)))

theorem quantile_eq (x : ℝ) : quantileK (x : EReal) = quantileR (x : EReal) := by
  obtain ⟨c0, h0⟩ := num_real 0x3FA0AF3B#32 (by decide)
  obtain ⟨c1, h1⟩ := num_real 0xBCC8A584#32 (by decide)
  obtain ⟨c2, h2⟩ := num_real 0x3EDBC0D1#32 (by decide)
  obtain ⟨c3, h3⟩ := num_real 0xBE48EF50#32 (by decide)
  obtain ⟨c4, h4⟩ := num_real 0x3E5C319A#32 (by decide)
  obtain ⟨c5, h5⟩ := num_real 0xBDD6D461#32 (by decide)
  obtain ⟨c6, h6⟩ := num_real 0x3CB45D79#32 (by decide)
  obtain ⟨c7, h7⟩ := num_real 0xBADEE84B#32 (by decide)
  simp only [quantileK, quantileR, step, h0, h1, h2, h3, h4, h5, h6, h7, ← EReal.coe_mul, ← EReal.coe_add]
  congr 1; ring

def normalK (w : BitVec 32) : EReal := uniformK w * quantileK (rootK (uniformK w))

def normalR (w : BitVec 32) : EReal := uniformR w * quantileR (rootR (uniformR w))

/-- The two programs make the same normal number of a word. -/
theorem normal_eq (w : BitVec 32) : normalK w = normalR w := by
  obtain ⟨u, h, h', hK, hR⟩ := uniform_real w
  obtain ⟨s, eK, eR⟩ := root_real u h h'
  unfold normalK normalR
  rw [hK, hR, eK, eR, quantile_eq]

/-! ## The rates -/

/-- A step's angle as the kernel writes it, with its two named constants, -/
def angleK (t : BitVec 32) : EReal :=
  ((t.toInt : ℝ) : EReal) * ((2635359 / 1677889400 : ℝ) : EReal) + ((16463680628775 / 104821528717164544 : ℝ) : EReal)

/-- and as the reference writes it. -/
def angleR (t : BitVec 32) : EReal :=
  Ideal.div (num 0x3FC90FDB#32 * (Ideal.div ((t.toInt : ℝ) : EReal) (num 0x447A0000#32) + num 0x38D1B717#32)) (num 0x3F800347#32)

/-- They are one real number. -/
theorem angle_real (t : BitVec 32) : ∃ a : ℝ, angleK t = (a : EReal) ∧ angleR t = (a : EReal) := by
  refine ⟨(t.toInt : ℝ) * (2635359 / 1677889400) + 16463680628775 / 104821528717164544, ?_, ?_⟩
  · unfold angleK; norm_cast
  · unfold angleR
    rw [num_half_pi, num_thousand, num_start, num_stretch, Ideal.div_coe (by norm_num), Ideal.div_coe (by norm_num)]
    simp only [← EReal.coe_mul, ← EReal.coe_add]
    congr 1; ring

/-- The signal rate at an angle as the kernel evaluates it, -/
def signalK (a : EReal) : EReal :=
  let p := step (a * a) 0x3F7FFFFF#32 (step (a * a) 0xBEFFFFE7#32 (step (a * a) 0x3D2AA7F7#32
    (num 0xBAB5A1CA#32 + num 0x37C2EE65#32 * (a * a))))
  max p (-p)

/-- and as the reference sums it. -/
def signalR (a : EReal) : EReal :=
  let x := a * a
  let p := num 0x3F7FFFFF#32 + num 0xBEFFFFE7#32 * x + num 0x3D2AA7F7#32 * (x * x) + num 0xBAB5A1CA#32 * (x * x * x)
    + num 0x37C2EE65#32 * (x * x * (x * x))
  max p (-p)

theorem signal_eq (a : ℝ) : signalK (a : EReal) = signalR (a : EReal) := by
  obtain ⟨c0, h0⟩ := num_real 0x3F7FFFFF#32 (by decide)
  obtain ⟨c1, h1⟩ := num_real 0xBEFFFFE7#32 (by decide)
  obtain ⟨c2, h2⟩ := num_real 0x3D2AA7F7#32 (by decide)
  obtain ⟨c3, h3⟩ := num_real 0xBAB5A1CA#32 (by decide)
  obtain ⟨c4, h4⟩ := num_real 0x37C2EE65#32 (by decide)
  simp only [signalK, signalR, step, h0, h1, h2, h3, h4, ← EReal.coe_mul, ← EReal.coe_add]
  ring_nf

/-- The noise rate at an angle as the kernel evaluates it, -/
def rateK (a : EReal) : EReal :=
  a * step (a * a) 0x3F800000#32 (step (a * a) 0xBE2AAAA6#32 (step (a * a) 0x3C08878B#32
    (num 0xB94FBFBF#32 + num 0x362F5978#32 * (a * a))))

/-- and as the reference sums it. -/
def rateR (a : EReal) : EReal :=
  let x := a * a
  a * (num 0x3F800000#32 + num 0xBE2AAAA6#32 * x + num 0x3C08878B#32 * (x * x) + num 0xB94FBFBF#32 * (x * x * x)
    + num 0x362F5978#32 * (x * x * (x * x)))

theorem rate_eq (a : ℝ) : rateK (a : EReal) = rateR (a : EReal) := by
  obtain ⟨c0, h0⟩ := num_real 0x3F800000#32 (by decide)
  obtain ⟨c1, h1⟩ := num_real 0xBE2AAAA6#32 (by decide)
  obtain ⟨c2, h2⟩ := num_real 0x3C08878B#32 (by decide)
  obtain ⟨c3, h3⟩ := num_real 0xB94FBFBF#32 (by decide)
  obtain ⟨c4, h4⟩ := num_real 0x362F5978#32 (by decide)
  simp only [rateK, rateR, step, h0, h1, h2, h3, h4, ← EReal.coe_mul, ← EReal.coe_add]
  congr 1; ring

/-- The two programs' rates of a step are the same. -/
theorem signal_angle_eq (t : BitVec 32) : signalK (angleK t) = signalR (angleR t) := by
  obtain ⟨a, hK, hR⟩ := angle_real t
  rw [hK, hR, signal_eq]

theorem rate_angle_eq (t : BitVec 32) : rateK (angleK t) = rateR (angleR t) := by
  obtain ⟨a, hK, hR⟩ := angle_real t
  rw [hK, hR, rate_eq]

end Cert.Noise
-- ==== Proof.Read.lean ====
/- THE BLOCK READ AT AN INDEX. Chunk `c` of a block is the rows `64 c` to `64 c + 63` of one function of the block's row
   and column, so the whole block is that function: for the noise the normal number of the counter's word, for the
   mixture the two rates of the row's step times the data and the noise. -/
module

public import proofs.«01_k».proof.Proof.Block
public import proofs.«01_k».proof.Proof.Numbers

@[expose] public section

set_option maxRecDepth 16384

noncomputable section

namespace Cert.KernelIdeal.Hand

open Cert.KernelIdeal Cert.KernelIdeal.Gen Idealize.ShloMosaic Idealize.ShloMosaic.ValueIdx

/-! ## The noise of a chunk -/

theorem splat_apply {s : Shape} (b : BitVec 32) (j : s.Idx) :
    broadcast s (Scalar.ofBits (F := Ideal) .f32 b) j = Noise.num b := rfl

theorem sqrt_apply {s : Shape} (x : FVec Ideal s .f32) (j : s.Idx) : sqrt x j = Ideal.sqrt (x j) := rfl

theorem log_apply {s : Shape} (x : FVec Ideal s .f32) (j : s.Idx) : log x j = Ideal.log (x j) := rfl

theorem vUniform_apply (b : IVec S64x128 32) (j : S64x128.Idx) :
    vUniform (F := Ideal) b j = Noise.uniformK (b j) := rfl

theorem vRoot_apply (u : FVec Ideal S64x128 .f32) (j : S64x128.Idx) : vRoot u j = Noise.rootK (u j) := by
  rw [vRoot, sqrt_apply, subf_apply, log_apply, subf_apply, mulf_apply, splat_apply, splat_apply, Noise.rootK]

theorem vStep_apply {s : Shape} (x : FVec Ideal s .f32) (b : BitVec 32) (acc : FVec Ideal s .f32) (j : s.Idx) :
    vStep x b acc j = Noise.step (x j) b (acc j) := by
  rw [vStep, addf_apply, mulf_apply, splat_apply]

theorem vStart_apply {s : Shape} (x : FVec Ideal s .f32) (a b : BitVec 32) (j : s.Idx) :
    vStart x a b j = Noise.num b + Noise.num a * x j := by
  rw [vStart, addf_apply, mulf_apply, splat_apply, splat_apply]

theorem vQuantile_apply (x : FVec Ideal S64x128 .f32) (j : S64x128.Idx) : vQuantile x j = Noise.quantileK (x j) := by
  simp only [vQuantile, vStep_apply, vStart_apply, Noise.quantileK]

theorem vNormal_apply (b : IVec S64x128 32) (j : S64x128.Idx) : vNormal (F := Ideal) b j = Noise.normalK (b j) := by
  rw [vNormal, mulf_apply, vQuantile_apply, vRoot_apply, vUniform_apply, Noise.normalK]

theorem vPlace_apply (j : S64x128.Idx) : vPlace j = BitVec.ofNat 32 (128 * (j 0).val + (j 1).val) := by
  show IntOp.addi (IntOp.muli (iota .tc S64x128 32 [0] _ j) 128#32) (iota .tc S64x128 32 [1] _ j) = _
  rw [iota_single_apply, iota_single_apply, Nat.mul_comm]
  simp only [IntOp.addi, IntOp.muli, ← BitVec.ofNat_mul, ← BitVec.ofNat_add]

/-- The noise of a block whose counters start at `b`, at a row and a column of the block. -/
def blockEps (b : BitVec 32) (y : S4096x128.Idx) : EReal :=
  Noise.normalK (Noise.kernelWord .vector (b + BitVec.ofNat 32 (128 * (y 0).val + (y 1).val)))

theorem epsChunk_apply (i : grid0.Coords) (x0 : Vec Ideal S1x1 .i32) {c : ℕ} (h : c < 64) (j : S64x128.Idx) :
    epsChunk (F := Ideal) i x0 c j = blockEps (start i x0) ((rows h).emb j) := by
  rw [epsChunk, vNormal_apply, Noise.kernelWords_apply]
  have e0 : (((rows h).emb j 0 : ℕ)) = 64 * c + (j 0).val := by
    show 64 * c + 1 * (j 0).val = _; omega
  have e1 : (((rows h).emb j 1 : ℕ)) = (j 1).val := by
    show 0 + 1 * (j 1).val = _; omega
  rw [blockEps, e0, e1]
  congr 2
  show (start i x0 + BitVec.ofNat 32 (8192 * c)) + vPlace j = _
  rw [vPlace_apply, BitVec.add_assoc, ← BitVec.ofNat_add]
  congr 2; ring

/-! ## The mixture of a chunk -/

/-- The step that a block of steps `x1` has for the block's row `r`: the steps lie 128 to a line. -/
def stepAt (x1 : Vec Ideal S1x32x128 .i32) (r : Fin 4096) : BitVec 32 :=
  x1 (ValueIdx.ix3 (n0 := 1) (n1 := 32) (n2 := 128) 0 ⟨r.val / 128, by omega⟩ ⟨r.val % 128, by omega⟩)

theorem vAngle_apply (x1 : Vec Ideal S1x32x128 .i32) (a : Fin 32) (b : Fin 128) :
    vAngle (F := Ideal) x1 (ValueIdx.ix2 a b) = Noise.angleK (x1 (ValueIdx.ix3 (n0 := 1) 0 a b)) := by
  have e : shapeCast S32x128 (View.ld x1 (Rect.unit (s := S1x32x128) ![0, 0, 0] S1x32x128.size
      Facts₀.inb_S1x32x128_S1x32x128_0_0_0)) Facts₀.shapeCasts_S1x32x128_S32x128 (ValueIdx.ix2 a b) = x1 (ValueIdx.ix3 (n0 := 1) 0 a b) := by
    rw [shapeCast_apply _ _ (ValueIdx.ix2 a b) (ValueIdx.ix3 (n0 := 1) (n1 := 32) (n2 := 128) 0 a b) (by
      rw [Shape.rowMajor_val_three, Shape.rowMajor_val_two]
      show (0 * 32 + a.val) * 128 + b.val = a.val * 128 + b.val
      omega)]
    show x1 _ = x1 _
    congr 1
    funext d
    match d with
    | ⟨0, _⟩ => rfl
    | ⟨1, _⟩ => exact Fin.ext (by show 0 + 1 * a.val = a.val; omega)
    | ⟨2, _⟩ => exact Fin.ext (by show 0 + 1 * b.val = b.val; omega)
  rw [vAngle, addf_apply, mulf_apply, Noise.angleK, ← e]
  rfl

theorem vSquare_apply (x1 : Vec Ideal S1x32x128 .i32) (j : S32x128.Idx) :
    vSquare (F := Ideal) x1 j = vAngle x1 j * vAngle x1 j := by
  rw [vSquare, mulf_apply]

theorem absf_apply {s : Shape} (x : FVec Ideal s .f32) (j : s.Idx) : absf x j = max (x j) (-(x j)) := rfl

theorem signalTable_apply (x1 : Vec Ideal S1x32x128 .i32) (b : Fin 128) (a : Fin 32) :
    signalTable (F := Ideal) x1 (ValueIdx.ix2 b a) = Noise.signalK (Noise.angleK (x1 (ValueIdx.ix3 (n0 := 1) 0 a b))) := by
  rw [signalTable, transpose_apply _ _ _ _ (ValueIdx.ix2 a b) (fun d => match d with | ⟨0, _⟩ => rfl | ⟨1, _⟩ => rfl), absf_apply]
  simp only [vStep_apply, vStart_apply, vSquare_apply, vAngle_apply, Noise.signalK]

theorem noiseTable_apply (x1 : Vec Ideal S1x32x128 .i32) (b : Fin 128) (a : Fin 32) :
    noiseTable (F := Ideal) x1 (ValueIdx.ix2 b a) = Noise.rateK (Noise.angleK (x1 (ValueIdx.ix3 (n0 := 1) 0 a b))) := by
  rw [noiseTable, transpose_apply _ _ _ _ (ValueIdx.ix2 a b) (fun d => match d with | ⟨0, _⟩ => rfl | ⟨1, _⟩ => rfl), mulf_apply]
  simp only [vStep_apply, vStart_apply, vSquare_apply, vAngle_apply, Noise.rateK]

/-- Chunk `c`'s column of a table, written along its rows, at a row and a column of the chunk. -/
theorem column_apply (T : FVec Ideal S128x32 .f32) {c : ℕ} (h : c < 64) (j : S64x128.Idx) (r : Fin 4096)
    (hr : r.val = 64 * c + (j 0).val) :
    broadcastTo S64x128 (column T h) Facts₀.broadcasts_S64x1_S64x128 j
      = T (ValueIdx.ix2 ⟨r.val % 128, by omega⟩ ⟨r.val / 128, by omega⟩) := by
  have hj : (j 0).val < 64 := (j 0).isLt
  rw [broadcastTo_apply _ _ j (ValueIdx.ix2 (n0 := 64) (n1 := 1) ⟨(j 0).val, hj⟩ 0)
    (fun a => match a with | ⟨0, _⟩ => rfl | ⟨1, _⟩ => rfl), column]
  exact extractStridedSlice_apply _ _ _ _ _ (fun a => match a with
    | ⟨0, _⟩ => by show r.val % 128 = 64 * (c % 2) + (j 0).val; omega
    | ⟨1, _⟩ => by show r.val / 128 = c / 2 + 0; omega)

/-- The noised data of a block: its row's rates times the data and the noise. -/
def blockMix (b : BitVec 32) (x1 : Vec Ideal S1x32x128 .i32) (x2 : Vec Ideal S4096x128 .f32) (y : S4096x128.Idx) : EReal :=
  Noise.signalK (Noise.angleK (stepAt x1 (y 0))) * x2 y + Noise.rateK (Noise.angleK (stepAt x1 (y 0))) * blockEps b y

theorem mixChunk_apply (i : grid0.Coords) (x0 : Vec Ideal S1x1 .i32) (x1 : Vec Ideal S1x32x128 .i32)
    (x2 : Vec Ideal S4096x128 .f32) {c : ℕ} (h : c < 64) (j : S64x128.Idx) :
    mixChunk (F := Ideal) i x0 x1 x2 h j = blockMix (start i x0) x1 x2 ((rows h).emb j) := by
  have e0 : ((((rows h).emb j 0 : Fin 4096) : ℕ)) = 64 * c + (j 0).val := by
    show 64 * c + 1 * (j 0).val = _; omega
  rw [mixChunk, addf_apply, mulf_apply, mulf_apply, column_apply _ h j _ e0, column_apply _ h j _ e0, signalTable_apply,
    noiseTable_apply, epsChunk_apply i x0 h j]
  rfl

/-! ## The two buffers -/

/-- If every chunk's store is one function read at its rows, the stores of all 64 chunks are that function. -/
theorem canon_pieces (P : (c : ℕ) → c < 64 → FVec Ideal S64x128 .f32) (G : S4096x128.Idx → EReal)
    (hP : ∀ (c : ℕ) (h : c < 64) (j : S64x128.Idx), P c h j = G ((rows h).emb j)) (y : S4096x128.Idx) :
    View.canon (pieces (F := Ideal) P 64 le_rfl) y = G y := by
  have all : ∀ (n : ℕ) (h : n ≤ 64), ∀ p ∈ pieces (F := Ideal) P n h, ∀ x : p.1.shape.Idx, p.2 x = G (p.1.emb x) := by
    intro n
    induction n with
    | zero => intro h p hp; simp [pieces] at hp
    | succ n ih =>
      intro h p hp
      rcases List.mem_cons.1 hp with rfl | hp
      · exact hP n h
      · exact ih _ p hp
  have covered : ∀ (n : ℕ) (h : n ≤ 64), (y 0).val < 64 * n → ∃ p ∈ pieces (F := Ideal) P n h, y ∈ p.1.set := by
    intro n
    induction n with
    | zero => intro h hy; omega
    | succ n ih =>
      intro h hy
      by_cases hn : (y 0).val < 64 * n
      · obtain ⟨p, hp, hyp⟩ := ih (Nat.le_of_succ_le h) hn
        exact ⟨p, List.mem_cons_of_mem _ hp, hyp⟩
      · refine ⟨_, List.mem_cons_self, (Rect.mem_set_unit (inb := rows_inb h)).2 fun a => ?_⟩
        match a with
        | ⟨0, _⟩ => exact ⟨by show 64 * n ≤ (y 0).val; omega, by show (y 0).val < 64 * n + 64; omega⟩
        | ⟨1, _⟩ => exact ⟨Nat.zero_le _, by have h := (y 1).isLt; show (y 1).val < 0 + 128; rw [Nat.zero_add]; exact h⟩
  exact View.canon_apply_of_pieces G _ (all 64 le_rfl) y (covered 64 le_rfl (by have h := (y 0).isLt; exact h))

/-- The block's noise buffer, -/
theorem out_eps_apply (i : grid0.Coords) (x0 : Vec Ideal S1x1 .i32) (x1 : Vec Ideal S1x32x128 .i32)
    (x2 : Vec Ideal S4096x128 .f32) (y : S4096x128.Idx) :
    out0_4 (F := Ideal) i x0 x1 x2 y = blockEps (start i x0) y := by
  rw [out_eps]
  exact canon_pieces _ (blockEps (start i x0)) (fun _ h j => epsChunk_apply i x0 h j) y

/-- and its buffer of noised data. -/
theorem out_mix_apply (i : grid0.Coords) (x0 : Vec Ideal S1x1 .i32) (x1 : Vec Ideal S1x32x128 .i32)
    (x2 : Vec Ideal S4096x128 .f32) (y : S4096x128.Idx) :
    out0_3 (F := Ideal) i x0 x1 x2 y = blockMix (start i x0) x1 x2 y := by
  rw [out_mix]
  exact canon_pieces _ (blockMix (start i x0) x1 x2) (fun _ h j => mixChunk_apply i x0 x1 x2 h j) y

end Cert.KernelIdeal.Hand
-- ==== Proof.Array.lean ====
/- THE KERNEL'S TWO ARRAYS. Grid point `t` writes the rows `4096 t` to `4096 t + 4095` of both results; its counters start
   at the place of its first entry and its block of steps is the steps of its rows. So each array is one function of the
   row and the column, of the data and of the steps. -/
module

public import proofs.«01_k».proof.Proof.Gen.KernelIdeal.Value
public import proofs.«01_k».proof.Proof.Read
public import Idealize.ShloMosaic.Lib.Pipeline.ValueKit.Geometry

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The two arrays -/

/-- The noise at an index: the normal number of the word of its place, counted row by row, -/
def eps : FVec Ideal S16384x128 .f32 := fun j =>
  Noise.normalK (Noise.kernelWord .vector (BitVec.ofNat 32 (128 * (j 0).val + (j 1).val)))

/-- and the noised data, of the data `h` and the steps `t`. -/
def mix (h : FVec Ideal S16384x128 .f32) (t : IVec S16384 32) : FVec Ideal S16384x128 .f32 := fun j =>
  Noise.signalK (Noise.angleK (t (ValueIdx.ix1 (j 0)))) * h j + Noise.rateK (Noise.angleK (t (ValueIdx.ix1 (j 0)))) * eps j

/-! ## What the region finds -/

/-- The steps, 128 to a line, 32 lines to a block, -/
theorem found_steps (c : Dev nD) : V m c main_v0
    = (shapeCast S4x32x128 (m ((c : Thread nD τ).loc main_arg1)) shapeCasts_S16384_S4x32x128 : IVec S4x32x128 32) := by
  show StableHlo.after hostOps0 _ (Proc.devRef .tc main_v0) = _
  after_results
  rfl

/-- and the launch's own offset, zero. -/
theorem found_offset (c : Dev nD) (j : S1x1.Idx) : (V m c main_v1 : IVec S1x1 32) j = 0#32 := by
  have e : (V m c main_v1 : IVec S1x1 32) = broadcastInDim S1x1 ![] bcast_S_S1x1 (constantI S_ 32 0#32) := by
    show StableHlo.after hostOps0 _ (Proc.devRef .tc main_v1) = _
    after_results
  rw [e]
  rfl

/-! ## The blocks of the windows -/

theorem index1 : ∀ t : Fin cfg0.N, win0_1.index t = ![t.val, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem coord0 : ∀ t : Fin cfg0.N, (grid0.coords t 0).val = t.val := (by decide +kernel : ∀ t : Fin grid0.N, _)

/-- With a zero offset a point's counters start at the place of its first entry. -/
theorem start_of_zero (i : grid0.Coords) (x0 : Vec Ideal S1x1 .i32) (e : ∀ j, x0 j = 0#32) :
    start (F := Ideal) i x0 = BitVec.ofNat 32 (128 * (4096 * (i 0).val)) := by
  show x0 _ + (BitVec.ofNat 32 (i 0).val * 4096#32) * 128#32 = _
  rw [e, BitVec.zero_add, ← BitVec.ofNat_mul, ← BitVec.ofNat_mul]
  congr 1; ring

theorem start_eq (c : Dev nD) (t : Fin cfg0.N) :
    start (grid0.coords t) (iblk m c 0 t) = BitVec.ofNat 32 (128 * (4096 * t.val)) := by
  rw [start_of_zero (grid0.coords t) (iblk m c 0 t) (fun j => found_offset m c _), coord0]

/-- The noise of point `t`'s block is the noise of its rows. -/
theorem blockEps_eq (c : Dev nD) (t : Fin cfg0.N) (y : S4096x128.Idx) (j : S16384x128.Idx)
    (h0 : (j 0).val = 4096 * t.val + (y 0).val) (h1 : (j 1).val = (y 1).val) :
    blockEps (start (grid0.coords t) (iblk m c 0 t)) y = eps j := by
  rw [start_eq, blockEps, eps, h0, h1, ← BitVec.ofNat_add]
  congr 3; ring

/-- The steps of point `t`'s block are the steps of its rows. -/
theorem stepAt_eq (c : Dev nD) (t : Fin cfg0.N) (r : Fin 4096) (q : Fin 16384) (h : q.val = 4096 * t.val + r.val) :
    stepAt (iblk m c 1 t) r = (m ((c : Thread nD τ).loc main_arg1) : IVec S16384 32) (ValueIdx.ix1 q) := by
  unfold stepAt
  blk_simp [iblk]
  rw [found_steps]
  refine shapeCast_apply _ _ _ _ ?_
  refine (Shape.rowMajor_val_one _).trans (Eq.trans ?_ (Shape.rowMajor_val_three _).symm)
  blk_simp [index1]
  show q.val = (t.val * 32 + r.val / 128) * 128 + r.val % 128
  omega

/-- The noise array after the run. -/
theorem array_eps (c : Dev nD) : (dats m 0 c).arrAt 4 cfg0.N = eps := by
  refine (dats m 0 c).arrAt_eq_of_covers 4 _ (by decide +kernel) fun t hf y => ?_
  blk_simp
  rw [after0_4, out_eps_apply]
  exact blockEps_eq m c t y _ (by blk_simp [index4]; omega) (by blk_simp [index4])

/-- The array of noised data after the run. -/
theorem array_mix (c : Dev nD) : (dats m 0 c).arrAt 3 cfg0.N
    = mix (m ((c : Thread nD τ).loc main_arg0)) (m ((c : Thread nD τ).loc main_arg1)) := by
  refine (dats m 0 c).arrAt_eq_of_covers 3 _ (by decide +kernel) fun t hf y => ?_
  blk_simp
  rw [after0_3, out_mix_apply]
  have h0 : (((win0_3.blk t).view.emb y 0 : Fin 16384) : ℕ) = 4096 * t.val + (y 0).val := by blk_simp [index3]; omega
  have h1 : (((win0_3.blk t).view.emb y 1 : Fin 128) : ℕ) = (y 1).val := by blk_simp [index3]
  have hx : (iblk m c 2 t : FVec Ideal S4096x128 .f32) y
      = (m ((c : Thread nD τ).loc main_arg0) : FVec Ideal S16384x128 .f32) ((win0_3.blk t).view.emb y) := by
    blk_simp [iblk]
    rw [V_main_arg0]
    congr 1
    blk_ext [index2, index3]
  rw [blockMix, blockEps_eq m c t y _ h0 h1, stepAt_eq m c t (y 0) _ h0, hx]
  rfl

end Cert.KernelIdeal.Hand
-- ==== Proof.Reference.lean ====
/- THE REFERENCE READ AT AN INDEX. Every operation of the reference is pointwise, so its two results at row `i 0` and
   column `i 1` are functions of that place's counter, of the row's step and of the entry of the data there. -/
module

public import proofs.«01_k».proof.Proof.Gen.ReferenceIdeal.Run
public import proofs.«01_k».proof.Proof.Cipher
public import proofs.«01_k».proof.Proof.Numbers

@[expose] public section

set_option maxRecDepth 16384

noncomputable section

namespace Cert.ReferenceIdeal.Hand

open Cert.ReferenceIdeal Cert.ReferenceIdeal.Gen Cert.ReferenceIdeal.Value Idealize.ShloMosaic Idealize.ShloMosaic.StableHlo

/-- The counter at an index: the place in the array, row by row. -/
def counter (j : S16384x128.Idx) : BitVec 32 :=
  IntOp.addi (IntOp.muli (BitVec.ofNat 32 (j 0).val) 128#32) (BitVec.ofNat 32 (j 1).val)

/-- The words the reference draws, one for each element. -/
abbrev words (V0 : Valuation τ sig (Elt Ideal)) : IVec S16384x128 32 :=
  xori (addi (res_main_v216 V0) (broadcastInDim S16384x128 ![] bcast_S_S16384x128 (constantI S_ 32 466688987#32)))
    (addi (addi (xori (ori (Host.shli (res_main_v215 V0) (broadcastInDim S16384x128 ![] bcast_S_S16384x128 (constantI S_ 32 6#32))) (Host.shrui (res_main_v215 V0) (broadcastInDim S16384x128 ![] bcast_S_S16384x128 (constantI S_ 32 26#32)))) (res_main_v216 V0)) (broadcastInDim S16384x128 ![] bcast_S_S16384x128 (constantI S_ 32 0#32))) (broadcastInDim S16384x128 ![] bcast_S_S16384x128 (constantI S_ 32 5#32)))

theorem words_apply (V0 : Valuation τ sig (Elt Ideal)) (j : S16384x128.Idx) :
    words V0 j = Noise.cipherWord .host (counter j) := by
  dsimp only [words, res_main_v58, res_main_v59, res_main_v65, res_main_v66, res_main_v72, res_main_v73, res_main_v79,
    res_main_v80, res_main_v92, res_main_v93, res_main_v99, res_main_v100, res_main_v106, res_main_v107, res_main_v113,
    res_main_v114, res_main_v126, res_main_v127, res_main_v133, res_main_v134, res_main_v140, res_main_v141,
    res_main_v147, res_main_v148, res_main_v160, res_main_v161, res_main_v167, res_main_v168, res_main_v174,
    res_main_v175, res_main_v181, res_main_v182, res_main_v194, res_main_v195, res_main_v201, res_main_v202,
    res_main_v208, res_main_v209, res_main_v215, res_main_v216,
    Noise.cipherWord, Noise.key, Noise.even, Noise.odd, Noise.tail, Noise.round, Noise.rot, counter,
    addi, xori, ori, muli, Host.shli, Host.shrui, broadcastInDim, constantI, iotaInDim]
  rfl

/-- The uniform numbers of an array of words, as the reference writes them. -/
abbrev uniforms (z : IVec S16384x128 32) : FVec Ideal S16384x128 .f32 :=
  maximumf (broadcastInDim S16384x128 ![] bcast_S_S16384x128 (constant S_ .f32 0xBF7FFFFF#32)) (addf (mulf (subf (bitcastToFloat (F := Ideal) .f32 (ori (Host.shrui z (broadcastInDim S16384x128 ![] bcast_S_S16384x128 (constantI S_ 32 9#32))) (broadcastInDim S16384x128 ![] bcast_S_S16384x128 (constantI S_ 32 1065353216#32)))) (broadcastInDim S16384x128 ![] bcast_S_S16384x128 (constant S_ .f32 0x3F800000#32))) (broadcastInDim S16384x128 ![] bcast_S_S16384x128 (constant S_ .f32 0x40000000#32))) (broadcastInDim S16384x128 ![] bcast_S_S16384x128 (constant S_ .f32 0xBF7FFFFF#32)))

theorem uniforms_apply (z : IVec S16384x128 32) (j : S16384x128.Idx) : uniforms z j = Noise.uniformR (z j) := rfl

/-- The uniform number at an index, -/
theorem uniform_apply (V0 : Valuation τ sig (Elt Ideal)) (j : S16384x128.Idx) :
    res_main_v242 V0 j = Noise.uniformR (Noise.cipherWord .host (counter j)) := by
  have e : res_main_v242 V0 = uniforms (words V0) := by unfold res_main_v242; rfl
  rw [e, uniforms_apply, words_apply]

/-- One number at every index. -/
abbrev constants (b : BitVec 32) : FVec Ideal S16384x128 .f32 :=
  broadcastInDim S16384x128 ![] bcast_S_S16384x128 (constant S_ .f32 b)

theorem constants_apply (b : BitVec 32) (j : S16384x128.Idx) : constants b j = Noise.num b := rfl

theorem hostSqrt_apply (x : FVec Ideal S16384x128 .f32) (j : S16384x128.Idx) : Host.sqrt x j = Ideal.sqrt (x j) := rfl

theorem hostNegf_apply (x : FVec Ideal S16384x128 .f32) (j : S16384x128.Idx) : Host.negf x j = -(x j) := rfl

theorem hostLog_apply (x : FVec Ideal S16384x128 .f32) (j : S16384x128.Idx) : Host.log x j = Ideal.log (x j) := rfl

/-- The roots taken of an array of numbers, -/
abbrev roots (u : FVec Ideal S16384x128 .f32) : FVec Ideal S16384x128 .f32 :=
  Host.sqrt (Host.negf (Host.log (subf (constants 0x3F800000#32) (mulf u u))))

theorem roots_apply (u : FVec Ideal S16384x128 .f32) (j : S16384x128.Idx) : roots u j = Noise.rootR (u j) := by
  rw [roots, hostSqrt_apply, hostNegf_apply, hostLog_apply, ValueIdx.subf_apply, ValueIdx.mulf_apply, constants_apply,
    Noise.rootR]

/-- and the quantile's sum of powers of one. -/
abbrev sums (x : FVec Ideal S16384x128 .f32) : FVec Ideal S16384x128 .f32 :=
  addf (addf (addf (addf (addf (addf (addf (constants 0x3FA0AF3B#32)
    (mulf (constants 0xBCC8A584#32) x))
    (mulf (constants 0x3EDBC0D1#32) (mulf x x)))
    (mulf (constants 0xBE48EF50#32) (mulf (mulf x x) x)))
    (mulf (constants 0x3E5C319A#32) (mulf (mulf x x) (mulf x x))))
    (mulf (constants 0xBDD6D461#32) (mulf x (mulf (mulf x x) (mulf x x)))))
    (mulf (constants 0x3CB45D79#32) (mulf (mulf x x) (mulf (mulf x x) (mulf x x)))))
    (mulf (constants 0xBADEE84B#32) (mulf (mulf x (mulf x x)) (mulf (mulf x x) (mulf x x))))

theorem sums_apply (x : FVec Ideal S16384x128 .f32) (j : S16384x128.Idx) : sums x j = Noise.quantileR (x j) := by
  simp only [sums, ValueIdx.addf_apply, ValueIdx.mulf_apply, constants_apply, Noise.quantileR]

/-- The reference's noise. -/
abbrev noise (V0 : Valuation τ sig (Elt Ideal)) : FVec Ideal S16384x128 .f32 :=
  mulf (res_main_v242 V0) (sums (res_main_v248 V0))

/-- It is, at an index, the normal number of the word there. -/
theorem noise_apply (V0 : Valuation τ sig (Elt Ideal)) (j : S16384x128.Idx) :
    noise V0 j = Noise.normalR (Noise.cipherWord .host (counter j)) := by
  have e : res_main_v248 V0 = roots (res_main_v242 V0) := by unfold res_main_v248; rfl
  rw [noise, ValueIdx.mulf_apply, sums_apply, e, roots_apply, uniform_apply, Noise.normalR]

/-- The angle of a row's step, -/
theorem angle_apply (V0 : Valuation τ sig (Elt Ideal)) (r : S16384.Idx) :
    res_main_v8 V0 r = Noise.angleR ((V0 (Proc.devRef .tc main_arg1) : IVec S16384 32) r) := rfl

/-- its signal rate, -/
abbrev signal (V0 : Valuation τ sig (Elt Ideal)) : FVec Ideal S16384 .f32 :=
  Host.absf (addf (addf (addf (addf (broadcastInDim S16384 ![] bcast_S_S16384 (constant S_ .f32 0x3F7FFFFF#32)) (mulf (broadcastInDim S16384 ![] bcast_S_S16384 (constant S_ .f32 0xBEFFFFE7#32)) (res_main_v9 V0))) (mulf (broadcastInDim S16384 ![] bcast_S_S16384 (constant S_ .f32 0x3D2AA7F7#32)) (mulf (res_main_v9 V0) (res_main_v9 V0)))) (mulf (broadcastInDim S16384 ![] bcast_S_S16384 (constant S_ .f32 0xBAB5A1CA#32)) (mulf (mulf (res_main_v9 V0) (res_main_v9 V0)) (res_main_v9 V0)))) (mulf (broadcastInDim S16384 ![] bcast_S_S16384 (constant S_ .f32 0x37C2EE65#32)) (mulf (res_main_v23 V0) (res_main_v23 V0))))

theorem signal_apply (V0 : Valuation τ sig (Elt Ideal)) (r : S16384.Idx) :
    signal V0 r = Noise.signalR (res_main_v8 V0 r) := by
  unfold signal res_main_v23 res_main_v9
  generalize res_main_v8 V0 = a
  rfl

/-- and its noise rate. -/
abbrev rate (V0 : Valuation τ sig (Elt Ideal)) : FVec Ideal S16384 .f32 :=
  mulf (res_main_v8 V0) (addf (addf (addf (addf (broadcastInDim S16384 ![] bcast_S_S16384 (constant S_ .f32 0x3F800000#32)) (mulf (broadcastInDim S16384 ![] bcast_S_S16384 (constant S_ .f32 0xBE2AAAA6#32)) (res_main_v29 V0))) (mulf (broadcastInDim S16384 ![] bcast_S_S16384 (constant S_ .f32 0x3C08878B#32)) (mulf (res_main_v29 V0) (res_main_v29 V0)))) (mulf (broadcastInDim S16384 ![] bcast_S_S16384 (constant S_ .f32 0xB94FBFBF#32)) (mulf (mulf (res_main_v29 V0) (res_main_v29 V0)) (res_main_v29 V0)))) (mulf (broadcastInDim S16384 ![] bcast_S_S16384 (constant S_ .f32 0x362F5978#32)) (mulf (res_main_v43 V0) (res_main_v43 V0))))

theorem rate_apply (V0 : Valuation τ sig (Elt Ideal)) (r : S16384.Idx) :
    rate V0 r = Noise.rateR (res_main_v8 V0 r) := by
  unfold rate res_main_v43 res_main_v29
  generalize res_main_v8 V0 = a
  rfl

/-- A number per row, written along the row. -/
abbrev spread (x : FVec Ideal S16384 .f32) : FVec Ideal S16384x128 .f32 :=
  broadcastInDim S16384x128 ![0, 1] bcast_S16384x1_S16384x128_0_1 (broadcastInDim S16384x1 ![0] bcast_S16384_S16384x1_0 x)

/-- The row of an index. -/
def row (j : S16384x128.Idx) : S16384.Idx := ValueIdx.ix1 (j 0)

theorem spread_apply (x : FVec Ideal S16384 .f32) (j : S16384x128.Idx) : spread x j = x (row j) := by
  show x _ = x _
  congr 1
  funext a
  fin_cases a
  rfl

/-- The noise the reference makes, index by index, -/
def eps : FVec Ideal S16384x128 .f32 := fun j => Noise.normalR (Noise.cipherWord .host (counter j))

/-- and the noised data, of the data `h` and the steps `t`. -/
def mix (h : FVec Ideal S16384x128 .f32) (t : IVec S16384 32) : FVec Ideal S16384x128 .f32 := fun j =>
  Noise.signalR (Noise.angleR (t (row j))) * h j + Noise.rateR (Noise.angleR (t (row j))) * eps j

/-- The reference's second result is that noise. -/
theorem noise_eq (V0 : Valuation τ sig (Elt Ideal)) : noise V0 = eps := funext fun j => noise_apply V0 j

/-- The reference's first result is that mixture. -/
theorem mix_eq (V0 : Valuation τ sig (Elt Ideal)) :
    addf (mulf (spread (signal V0)) (V0 (Proc.devRef .tc main_arg0))) (mulf (spread (rate V0)) (noise V0))
      = mix (V0 (Proc.devRef .tc main_arg0)) (V0 (Proc.devRef .tc main_arg1)) := by
  rw [noise_eq]
  funext j
  rw [ValueIdx.addf_apply, ValueIdx.mulf_apply, ValueIdx.mulf_apply, spread_apply, spread_apply, signal_apply, rate_apply,
    angle_apply, mix]

end Cert.ReferenceIdeal.Hand
-- ==== Proof.Result.lean ====
/- THE REFERENCE'S TWO RESULTS. Its run leaves its results as the operations composed; these are the noise and the mixture
   of Reference.lean, with the powers shared between the sums spelt out. -/
module

public import proofs.«01_k».proof.Proof.Reference

@[expose] public section

set_option maxRecDepth 16384

noncomputable section

namespace Cert.ReferenceIdeal.Hand

open Cert.ReferenceIdeal Cert.ReferenceIdeal.Gen Cert.ReferenceIdeal.Value Idealize.ShloMosaic Idealize.ShloMosaic.StableHlo
open Idealize.ShloMosaic.TcCoe Idealize.SL.Sem

/-- The second result, in the run's own spelling. -/
theorem noise_run (V0 : Valuation τ sig (Elt Ideal)) : val7 V0 (Proc.devRef .tc main_v286) = eps := by
  rw [← noise_eq V0, val7_main_v286]
  unfold res_main_v262 res_main_v267 res_main_v273 res_main_v279
  rfl

/-- The first result, in the run's own spelling. -/
theorem mix_run (V0 : Valuation τ sig (Elt Ideal)) : val7 V0 (Proc.devRef .tc main_v293)
    = mix (V0 (Proc.devRef .tc main_arg0)) (V0 (Proc.devRef .tc main_arg1)) := by
  rw [← mix_eq V0, val7_main_v293]
  unfold res_main_v262 res_main_v267 res_main_v273 res_main_v279
  rfl

variable (m : (ℓ : Loc nD τ sig) → Buf (Elt Ideal) ℓ) (ρ : Dev nD → PrngReg)

/-- The reference's run with its results named. -/
theorem run_named : θ_run defs (onTc (τ := τ) (main (F := Ideal))) ⟨m, fun _ => 0, ρ⟩ fun r => ∀ c : Dev nD,
      r.2.mem ((c.tc : Thread nD τ).loc main_v293)
        = mix (m ((c.tc : Thread nD τ).loc main_arg0)) (m ((c.tc : Thread nD τ).loc main_arg1))
      ∧ r.2.mem ((c.tc : Thread nD τ).loc main_v286) = eps
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((val7_main_v293 (launchContents m c)).symm.trans (mix_run (launchContents m c))),
     (h c).2.1.trans ((val7_main_v286 (launchContents m c)).symm.trans (noise_run (launchContents m c))), (h c).2.2⟩)
    (Value.run (F := Ideal) m ρ)

end Cert.ReferenceIdeal.Hand
-- ==== Proof.Equation.lean ====
/- THE EQUATION. The kernel's two arrays are the reference's two, at every data and steps: the words agree, and so do the
   normal number of a word and the two rates of a step. -/
module

public import proofs.«01_k».proof.Proof.Array
public import proofs.«01_k».proof.Proof.Result

@[expose] public section

noncomputable section

namespace Cert.Equation

open Idealize.ShloMosaic

/-- A place counted by a 32-bit product and sum. -/
theorem counter_eq (j : Cert.ReferenceIdeal.S16384x128.Idx) :
    Cert.ReferenceIdeal.Hand.counter j = BitVec.ofNat 32 (128 * (j 0).val + (j 1).val) := by
  show BitVec.ofNat 32 (j 0).val * 128#32 + BitVec.ofNat 32 (j 1).val = _
  rw [← BitVec.ofNat_mul, ← BitVec.ofNat_add, Nat.mul_comm]

/-- The noises agree, -/
theorem eps_eq : Cert.ReferenceIdeal.Hand.eps = Cert.KernelIdeal.Hand.eps := by
  funext j
  rw [Cert.ReferenceIdeal.Hand.eps, Cert.KernelIdeal.Hand.eps, counter_eq, Noise.cipherWord_eq, Noise.normal_eq]

/-- and the noised data. -/
theorem mix_eq (h : FVec Ideal Cert.ReferenceIdeal.S16384x128 .f32) (t : IVec Cert.ReferenceIdeal.S16384 32) :
    Cert.ReferenceIdeal.Hand.mix h t = Cert.KernelIdeal.Hand.mix h t := by
  funext j
  rw [Cert.ReferenceIdeal.Hand.mix, Cert.KernelIdeal.Hand.mix, Noise.signal_angle_eq, Noise.rate_angle_eq, eps_eq]
  rfl

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its run, which has no semaphore to leave counted. -/
theorem frame_ReferenceIdeal : @Cert.quiescent_ReferenceIdeal Cert.ReferenceIdeal.Gen.facts := fun m ρ _ =>
  (θ_run Cert.ReferenceIdeal.defs _ _).mono
    (fun r h => ⟨fun c => (h c).2.2, sem_eq_zero_of_no_sems (by decide) r.2⟩) (Cert.ReferenceIdeal.Value.run (F := Ideal) m ρ)

/-- The three named constants. -/
theorem preserves_Kernel : Cert.preserves_Kernel_KernelIdeal :=
  ⟨IdealRules.named_const.statement Cert.KernelIdeal.κ "angle_step" .f32 0x3ACDDDE9#32 _ rfl,
   IdealRules.named_const.statement Cert.KernelIdeal.κ "angle_start" .f32 0x3924B187#32 _ rfl,
   IdealRules.named_const.statement Cert.KernelIdeal.κ "lowest_less_two" .f32 0xC0400000#32 _ rfl⟩

/-- The value claim: both results, element by element. -/
theorem algebraic : @Cert.algebraic_KernelIdeal_ReferenceIdeal Cert.KernelIdeal.Gen.facts Cert.ReferenceIdeal.Gen.facts := by
  intro m ρ m' ρ' _ hagree
  refine ⟨_, _, Cert.KernelIdeal.Value.run_blocks (F := Ideal) m ρ, ?_⟩
  refine (θ_run Cert.ReferenceIdeal.defs _ _).mono (fun _ h c => ⟨?_, ?_, (h c).2.2⟩)
    (Cert.ReferenceIdeal.Hand.run_named m' ρ')
  · rw [(h c).1, (hagree c).1, (hagree c).2.1]
    exact (Equation.mix_eq _ _).trans (Cert.KernelIdeal.Hand.array_mix m c).symm
  · exact (h c).2.1.trans (Equation.eps_eq.trans (Cert.KernelIdeal.Hand.array_eps m c).symm)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ReferenceIdeal,
  preserves_Kernel, algebraic⟩

end Cert.Proof

end
